-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_frames" .f32 0x3D70F0F1#32 ((1 / 17 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x2048 : Shape := ⟨2, ![1024, 2048]⟩
abbrev S129x256 : Shape := ⟨2, ![129, 256]⟩
abbrev S256 : Shape := ⟨1, ![256]⟩
abbrev S256x16 : Shape := ⟨2, ![256, 16]⟩
abbrev S16 : Shape := ⟨1, ![16]⟩
abbrev S16x2048x64 : Shape := ⟨3, ![16, 2048, 64]⟩
abbrev S16x64 : Shape := ⟨2, ![16, 64]⟩
abbrev S16x64x64 : Shape := ⟨3, ![16, 64, 64]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S129x256 : S_.BroadcastsInDim S129x256 (![] : Fin 0 → Fin S129x256.rank)
  reducesTo_S129x256_S_d0_1 : S129x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1024x2048 .f32) (main_arg1 : FVec F S129x256 .f32) (main_arg2 : FVec F S256 .f32) (main_arg3 : FVec F S256x16 .f32) (main_arg4 : FVec F S16 .f32) (main_arg5 : FVec F S16x2048x64 .f32) (main_arg6 : FVec F S16x64 .f32) (main_arg7 : FVec F S16x64x64 .f32) (main_arg8 : FVec F S16x64 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S129x256 .f32 := Host.absf main_arg1
  let main_cst_0 : FVec F S_ .f32 := constant S_ .f32 0x7F800000#32
  let main_v5 : FVec F S129x256 .f32 := broadcastInDim S129x256 ![] bcast_S_S129x256 main_cst_0
  let main_v6 : IVec S129x256 1 := cmpf .olt main_v4 main_v5
  let main_c_1 : IVec S_ 1 := constantI S_ 1 1#1
  let main_v7 : IVec S_ 1 := (fun x v => Host.reduce IntOp.andi x v reducesTo_S129x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S1024x2048 : Shape := ⟨2, ![1024, 2048]⟩
abbrev S129x256 : Shape := ⟨2, ![129, 256]⟩
abbrev S256 : Shape := ⟨1, ![256]⟩
abbrev S256x16 : Shape := ⟨2, ![256, 16]⟩
abbrev S16 : Shape := ⟨1, ![16]⟩
abbrev S16x2048x64 : Shape := ⟨3, ![16, 2048, 64]⟩
abbrev S16x64 : Shape := ⟨2, ![16, 64]⟩
abbrev S16x64x64 : Shape := ⟨3, ![16, 64, 64]⟩
abbrev S4x16x256 : Shape := ⟨3, ![4, 16, 256]⟩
abbrev S129 : Shape := ⟨1, ![129]⟩
abbrev S_ : Shape := ⟨0, ![]⟩
abbrev S256x1 : Shape := ⟨2, ![256, 1]⟩
abbrev S1x129 : Shape := ⟨2, ![1, 129]⟩
abbrev S256x129 : Shape := ⟨2, ![256, 129]⟩
abbrev S128x129 : Shape := ⟨2, ![128, 129]⟩
abbrev S1x256 : Shape := ⟨2, ![1, 256]⟩
abbrev S1x16 : Shape := ⟨2, ![1, 16]⟩
abbrev S1024x16 : Shape := ⟨2, ![1024, 16]⟩
abbrev S256x2048 : Shape := ⟨2, ![256, 2048]⟩
abbrev S256x256 : Shape := ⟨2, ![256, 256]⟩
abbrev S3840x256 : Shape := ⟨2, ![3840, 256]⟩
abbrev S3840x129 : Shape := ⟨2, ![3840, 129]⟩
abbrev S2048x16x64 : Shape := ⟨3, ![2048, 16, 64]⟩
abbrev S2048x1024 : Shape := ⟨2, ![2048, 1024]⟩
abbrev S1x1024 : Shape := ⟨2, ![1, 1024]⟩
abbrev S1024x64 : Shape := ⟨2, ![1024, 64]⟩
abbrev S2048x256 : Shape := ⟨2, ![2048, 256]⟩
abbrev S1x16x256 : Shape := ⟨3, ![1, 16, 256]⟩
abbrev S256x64 : Shape := ⟨2, ![256, 64]⟩
abbrev S1024x256 : Shape := ⟨2, ![1024, 256]⟩
abbrev S16x256 : Shape := ⟨2, ![16, 256]⟩

abbrev nBuf : Space → Nat
  | .hbm => 87
  | .vmem => 28
  | .smem => 0
  | _ => 0

abbrev bufTy : (tb : Table) → Fin (tcTables nBuf tb) → BufTy
  | .hbm, ⟨0, _⟩ => ⟨S1024x2048, .f32⟩
  | .hbm, ⟨1, _⟩ => ⟨S129x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S16x2048x64, .f32⟩
  | .hbm, ⟨6, _⟩ => ⟨S16x64, .f32⟩
  | .hbm, ⟨7, _⟩ => ⟨S16x64x64, .f32⟩
  | .hbm, ⟨8, _⟩ => ⟨S16x64, .f32⟩
  | .hbm, ⟨9, _⟩ => ⟨S4x16x256, .f32⟩
  | .hbm, ⟨10, _⟩ => ⟨S256, .f32⟩
  | .hbm, ⟨11, _⟩ => ⟨S129, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256x1, .f32⟩
  | .hbm, ⟨26, _⟩ => ⟨S1x129, .f32⟩
  | .hbm, ⟨27, _⟩ => ⟨S256x129, .f32⟩
  | .hbm, ⟨28, _⟩ => ⟨S256x129, .f32⟩
  | .hbm, ⟨29, _⟩ => ⟨S256x129, .f32⟩
  | .hbm, ⟨30, _⟩ => ⟨S_, .f32⟩
  | .hbm, ⟨31, _⟩ => ⟨S256x129, .f32⟩
  | .hbm, ⟨32, _⟩ => ⟨S256x129, .f32⟩
  | .hbm, ⟨33, _⟩ => ⟨S_, .f32⟩
  | .hbm, ⟨34, _⟩ => ⟨S256x129, .f32⟩
  | .hbm, ⟨35, _⟩ => ⟨S256x129, .f32⟩
  | .hbm, ⟨36, _⟩ => ⟨S256x1, .f32⟩
  | .hbm, ⟨37, _⟩ => ⟨S256x129, .f32⟩
  | .hbm, ⟨38, _⟩ => ⟨S256x129, .f32⟩
  | .hbm, ⟨39, _⟩ => ⟨S256x129, .f32⟩
  | .hbm, ⟨40, _⟩ => ⟨S256x1, .f32⟩
  | .hbm, ⟨41, _⟩ => ⟨S256x129, .f32⟩
  | .hbm, ⟨42, _⟩ => ⟨S256x129, .f32⟩
  | .hbm, ⟨43, _⟩ => ⟨S256x129, .f32⟩
  | .hbm, ⟨44, _⟩ => ⟨S128x129, .f32⟩
  | .hbm, ⟨45, _⟩ => ⟨S_, .f32⟩
  | .hbm, ⟨46, _⟩ => ⟨S256x129, .f32⟩
  | .hbm, ⟨47, _⟩ => ⟨S128x129, .f32⟩
  | .hbm, ⟨48, _⟩ => ⟨S128x129, .f32⟩
  | .hbm, ⟨49, _⟩ => ⟨S_, .f32⟩
  | .hbm, ⟨50, _⟩ => ⟨S256x129, .f32⟩
  | .hbm, ⟨51, _⟩ => ⟨S256x129, .f32⟩
  | .hbm, ⟨52, _⟩ => ⟨S128x129, .f32⟩
  | .hbm, ⟨53, _⟩ => ⟨S_, .f32⟩
  | .hbm, ⟨54, _⟩ => ⟨S256x129, .f32⟩
  | .hbm, ⟨55, _⟩ => ⟨S128x129, .f32⟩
  | .hbm, ⟨56, _⟩ => ⟨S128x129, .f32⟩
  | .hbm, ⟨57, _⟩ => ⟨S_, .f32⟩
  | .hbm, ⟨58, _⟩ => ⟨S256x129, .f32⟩
  | .hbm, ⟨59, _⟩ => ⟨S256x129, .f32⟩
  | .hbm, ⟨60, _⟩ => ⟨S128x129, .f32⟩
  | .hbm, ⟨61, _⟩ => ⟨S_, .f32⟩
  | .hbm, ⟨62, _⟩ => ⟨S256x129, .f32⟩
  | .hbm, ⟨63, _⟩ => ⟨S128x129, .f32⟩
  | .hbm, ⟨64, _⟩ => ⟨S128x129, .f32⟩
  | .hbm, ⟨65, _⟩ => ⟨S_, .f32⟩
  | .hbm, ⟨66, _⟩ => ⟨S256x129, .f32⟩
  | .hbm, ⟨67, _⟩ => ⟨S256x129, .f32⟩
  | .hbm, ⟨68, _⟩ => ⟨S128x129, .f32⟩
  | .hbm, ⟨69, _⟩ => ⟨S_, .f32⟩
  | .hbm, ⟨70, _⟩ => ⟨S256x129, .f32⟩
  | .hbm, ⟨71, _⟩ => ⟨S128x129, .f32⟩
  | .hbm, ⟨72, _⟩ => ⟨S128x129, .f32⟩
  | .hbm, ⟨73, _⟩ => ⟨S_, .f32⟩
  | .hbm, ⟨74, _⟩ => ⟨S256x129, .f32⟩
  | .hbm, ⟨75, _⟩ => ⟨S256x129, .f32⟩
  | .hbm, ⟨76, _⟩ => ⟨S1x256, .f32⟩
  | .hbm, ⟨77, _⟩ => ⟨S1x16, .f32⟩
  | .hbm, ⟨78, _⟩ => ⟨S1024x16, .f32⟩
  | .hbm, ⟨79, _⟩ => ⟨S1024x2048, .bf16⟩
  | .hbm, ⟨80, _⟩ => ⟨S2048x16x64, .f32⟩
  | .hbm, ⟨81, _⟩ => ⟨S2048x1024, .f32⟩
  | .hbm, ⟨82, _⟩ => ⟨S2048x1024, .bf16⟩
  | .hbm, ⟨83, _⟩ => ⟨S1x1024, .f32⟩
  | .hbm, ⟨84, _⟩ => ⟨S1024x64, .f32⟩
  | .hbm, ⟨85, _⟩ => ⟨S1024x64, .bf16⟩
  | .hbm, ⟨86, _⟩ => ⟨S1024x64, .f32⟩
  | .local _ .vmem, ⟨0, _⟩ => ⟨S256x2048, .f32⟩
  | .local _ .vmem, ⟨1, _⟩ => ⟨S256x2048, .f32⟩
  | .local _ .vmem, ⟨2, _⟩ => ⟨S256x129, .f32⟩
  | .local _ .vmem, ⟨3, _⟩ => ⟨S256x129, .f32⟩
  | .local _ .vmem, ⟨4, _⟩ => ⟨S256x129, .f32⟩
  | .local _ .vmem, ⟨5, _⟩ => ⟨S256x129, .f32⟩
  | .local _ .vmem, ⟨6, _⟩ => ⟨S256x129, .f32⟩
  | .local _ .vmem, ⟨7, _⟩ => ⟨S256x129, .f32⟩
  | .local _ .vmem, ⟨8, _⟩ => ⟨S129x256, .f32⟩
  | .local _ .vmem, ⟨9, _⟩ => ⟨S1x256, .f32⟩
  | .local _ .vmem, ⟨10, _⟩ => ⟨S256x16, .f32⟩
  | .local _ .vmem, ⟨11, _⟩ => ⟨S1x16, .f32⟩
  | .local _ .vmem, ⟨12, _⟩ => ⟨S256x16, .f32⟩
  | .local _ .vmem, ⟨13, _⟩ => ⟨S256x16, .f32⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | .local _ .vmem, ⟨17, _⟩ => ⟨S2048x256, .bf16⟩
  | .local _ .vmem, ⟨18, _⟩ => ⟨S2048x256, .bf16⟩
  | .local _ .vmem, ⟨19, _⟩ => ⟨S1x256, .f32⟩
  | .local _ .vmem, ⟨20, _⟩ => ⟨S1x256, .f32⟩
  | .local _ .vmem, ⟨21, _⟩ => ⟨S1x16x256, .f32⟩
  | .local _ .vmem, ⟨22, _⟩ => ⟨S1x16x256, .f32⟩
  | .local _ .vmem, ⟨23, _⟩ => ⟨S256x64, .bf16⟩
  | .local _ .vmem, ⟨24, _⟩ => ⟨S256x64, .bf16⟩
  | .local _ .vmem, ⟨25, _⟩ => ⟨S16x64, .f32⟩
  | .local _ .vmem, ⟨26, _⟩ => ⟨S1024x16, .f32⟩
  | .local _ .vmem, ⟨27, _⟩ => ⟨S1024x64, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54_0 : Ref sig .tc := ⟨.hbm, 78, rfl⟩
abbrev main_v54_1 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x129 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x129 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x129 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S129x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "inv_frames" => some ((1 / 17 : ℝ) : EReal)
  | "mask" => some ⊥
  | _ => none
-- ==== ReferenceIdeal.lean ====
abbrev S1024x2048 : Shape := ⟨2, ![1024, 2048]⟩
abbrev S129x256 : Shape := ⟨2, ![129, 256]⟩
abbrev S256 : Shape := ⟨1, ![256]⟩
abbrev S256x16 : Shape := ⟨2, ![256, 16]⟩
abbrev S16 : Shape := ⟨1, ![16]⟩
abbrev S16x2048x64 : Shape := ⟨3, ![16, 2048, 64]⟩
abbrev S16x64 : Shape := ⟨2, ![16, 64]⟩
abbrev S16x64x64 : Shape := ⟨3, ![16, 64, 64]⟩
abbrev S_ : Shape := ⟨0, ![]⟩
abbrev S1024x1 : Shape := ⟨2, ![1024, 1]⟩
abbrev S1024x128 : Shape := ⟨2, ![1024, 128]⟩
abbrev S1024x2176 : Shape := ⟨2, ![1024, 2176]⟩
abbrev S1024x2304 : Shape := ⟨2, ![1024, 2304]⟩
abbrev S17 : Shape := ⟨1, ![17]⟩
abbrev S17x1 : Shape := ⟨2, ![17, 1]⟩
abbrev S1x256 : Shape := ⟨2, ![1, 256]⟩
abbrev S17x256 : Shape := ⟨2, ![17, 256]⟩
abbrev S17x256x1 : Shape := ⟨3, ![17, 256, 1]⟩
abbrev S1024x17x256 : Shape := ⟨3, ![1024, 17, 256]⟩
abbrev S1x1x256 : Shape := ⟨3, ![1, 1, 256]⟩
abbrev S129 : Shape := ⟨1, ![129]⟩
abbrev S256x1 : Shape := ⟨2, ![256, 1]⟩
abbrev S1x129 : Shape := ⟨2, ![1, 129]⟩
abbrev S256x129 : Shape := ⟨2, ![256, 129]⟩
abbrev S1024x17x129 : Shape := ⟨3, ![1024, 17, 129]⟩
abbrev S1024x129x17 : Shape := ⟨3, ![1024, 129, 17]⟩
abbrev S1024x129 : Shape := ⟨2, ![1024, 129]⟩
abbrev S1024x256 : Shape := ⟨2, ![1024, 256]⟩
abbrev S1024x16 : Shape := ⟨2, ![1024, 16]⟩
abbrev S1x16 : Shape := ⟨2, ![1, 16]⟩
abbrev S1024x2 : Shape := ⟨2, ![1024, 2]⟩
abbrev S1024 : Shape := ⟨1, ![1024]⟩
abbrev S16x64x1024 : Shape := ⟨3, ![16, 64, 1024]⟩
abbrev S16x1024x64 : Shape := ⟨3, ![16, 1024, 64]⟩
abbrev S16x1x64 : Shape := ⟨3, ![16, 1, 64]⟩
abbrev S1024x2x1 : Shape := ⟨3, ![1024, 2, 1]⟩
abbrev S1024x2x2 : Shape := ⟨3, ![1024, 2, 2]⟩
abbrev S1024x2x64 : Shape := ⟨3, ![1024, 2, 64]⟩
abbrev S1024x64 : Shape := ⟨2, ![1024, 64]⟩

abbrev nBuf : Space → Nat
  | .hbm => 149
  | .vmem => 0
  | .smem => 0
  | _ => 0

abbrev hbmTy0_0 (i : Nat) : BufTy := match i % 128 with
  | 0 => ⟨S1024x2048, .f32⟩
  | 1 => ⟨S129x256, .f32⟩
  | 2 => ⟨S256, .f32⟩
  | 3 => ⟨S256x16, .f32⟩
  | 4 => ⟨S16, .f32⟩
  | 5 => ⟨S16x2048x64, .f32⟩
  | 6 => ⟨S16x64, .f32⟩
  | 7 => ⟨S16x64x64, .f32⟩
  | 8 => ⟨S16x64, .f32⟩
  | 9 => ⟨S_, .i32⟩
  | 10 => ⟨S1024x1, .f32⟩
  | 11 => ⟨S1024x128, .f32⟩
  | 12 => ⟨S1024x128, .f32⟩
  | 13 => ⟨S1024x2176, .f32⟩
  | 14 => ⟨S1024x1, .f32⟩
  | 15 => ⟨S1024x128, .f32⟩
  | 16 => ⟨S1024x128, .f32⟩
  | 17 => ⟨S1024x2304, .f32⟩
  | 18 => ⟨S256, .i32⟩
  | 19 => ⟨S256, .f32⟩
  | 20 => ⟨S_, .f32⟩
  | 21 => ⟨S256, .f32⟩
  | 22 => ⟨S256, .f32⟩
  | 23 => ⟨S_, .f32⟩
  | 24 => ⟨S256, .f32⟩
  | 25 => ⟨S256, .f32⟩
  | 26 => ⟨S256, .f32⟩
  | 27 => ⟨S_, .f32⟩
  | 28 => ⟨S256, .f32⟩
  | 29 => ⟨S256, .f32⟩
  | 30 => ⟨S_, .f32⟩
  | 31 => ⟨S256, .f32⟩
  | 32 => ⟨S256, .f32⟩
  | 33 => ⟨S17, .i32⟩
  | 34 => ⟨S17x1, .i32⟩
  | 35 => ⟨S_, .i32⟩
  | 36 => ⟨S17x1, .i32⟩
  | 37 => ⟨S17x1, .i32⟩
  | 38 => ⟨S256, .i32⟩
  | 39 => ⟨S1x256, .i32⟩
  | 40 => ⟨S17x256, .i32⟩
  | 41 => ⟨S17x256, .i32⟩
  | 42 => ⟨S17x256, .i32⟩
  | 43 => ⟨S_, .i32⟩
  | 44 => ⟨S17x256, .i32⟩
  | 45 => ⟨S17x256, .i1⟩
  | 46 => ⟨S_, .i32⟩
  | 47 => ⟨S17x256, .i32⟩
  | 48 => ⟨S17x256, .i32⟩
  | 49 => ⟨S17x256, .i32⟩
  | 50 => ⟨S17x256x1, .i32⟩
  | 51 => ⟨S1024x17x256, .f32⟩
  | 52 => ⟨S1x1x256, .f32⟩
  | 53 => ⟨S1x1x256, .f32⟩
  | 54 => ⟨S1024x17x256, .f32⟩
  | 55 => ⟨S1024x17x256, .f32⟩
  | 56 => ⟨S256, .f32⟩
  | 57 => ⟨S129, .f32⟩
  | 58 => ⟨S256x1, .f32⟩
  | 59 => ⟨S1x129, .f32⟩
  | 60 => ⟨S256x129, .f32⟩
  | 61 => ⟨S256x129, .f32⟩
  | 62 => ⟨S256x129, .f32⟩
  | 63 => ⟨S_, .f32⟩
  | 64 => ⟨S256x129, .f32⟩
  | 65 => ⟨S256x129, .f32⟩
  | 66 => ⟨S_, .f32⟩
  | 67 => ⟨S256x129, .f32⟩
  | 68 => ⟨S256x129, .f32⟩
  | 69 => ⟨S256x129, .f32⟩
  | 70 => ⟨S1024x17x129, .f32⟩
  | 71 => ⟨S256x129, .f32⟩
  | 72 => ⟨S1024x17x129, .f32⟩
  | 73 => ⟨S1024x17x129, .f32⟩
  | 74 => ⟨S1024x17x129, .f32⟩
  | 75 => ⟨S1024x17x129, .f32⟩
  | 76 => ⟨S1024x17x129, .f32⟩
  | 77 => ⟨S1024x17x129, .f32⟩
  | 78 => ⟨S1024x129x17, .f32⟩
  | 79 => ⟨S_, .f32⟩
  | 80 => ⟨S1024x129, .f32⟩
  | 81 => ⟨S_, .f32⟩
  | 82 => ⟨S1024x129, .f32⟩
  | 83 => ⟨S1024x129, .f32⟩
  | 84 => ⟨S1024x256, .f32⟩
  | 85 => ⟨S1x256, .f32⟩
  | 86 => ⟨S1024x256, .f32⟩
  | 87 => ⟨S1024x256, .f32⟩
  | 88 => ⟨S_, .f32⟩
  | 89 => ⟨S1024x256, .f32⟩
  | 90 => ⟨S1024x256, .f32⟩
  | 91 => ⟨S1024x16, .f32⟩
  | 92 => ⟨S1x16, .f32⟩
  | 93 => ⟨S1024x16, .f32⟩
  | 94 => ⟨S1024x16, .f32⟩
  | 95 => ⟨S1024x2, .f32⟩
  | 96 => ⟨S1024x2, .i32⟩
  | 97 => ⟨S_, .f32⟩
  | 98 => ⟨S1024, .f32⟩
  | 99 => ⟨S_, .f32⟩
  | 100 => ⟨S1024, .f32⟩
  | 101 => ⟨S1024, .f32⟩
  | 102 => ⟨S1024x1, .f32⟩
  | 103 => ⟨S1024x2, .f32⟩
  | 104 => ⟨S1024x2, .f32⟩
  | 105 => ⟨S1024x2, .f32⟩
  | 106 => ⟨S_, .f32⟩
  | 107 => ⟨S1024, .f32⟩
  | 108 => ⟨S1024x1, .f32⟩
  | 109 => ⟨S1024x2, .f32⟩
  | 110 => ⟨S1024x2, .f32⟩
  | 111 => ⟨S16x64x1024, .f32⟩
  | 112 => ⟨S16x1024x64, .f32⟩
  | 113 => ⟨S16x1x64, .f32⟩
  | 114 => ⟨S16x1024x64, .f32⟩
  | 115 => ⟨S16x1024x64, .f32⟩
  | 116 => ⟨S_, .f32⟩
  | 117 => ⟨S16x1024x64, .f32⟩
  | 118 => ⟨S16x1024x64, .f32⟩
  | 119 => ⟨S16x1024x64, .f32⟩
  | 120 => ⟨S16x1x64, .f32⟩
  | 121 => ⟨S16x1024x64, .f32⟩
  | 122 => ⟨S16x1024x64, .f32⟩
  | 123 => ⟨S1024, .i32⟩
  | 124 => ⟨S1024x1, .i32⟩
  | 125 => ⟨S_, .i32⟩
  | 126 => ⟨S1024x2, .i32⟩
  | 127 => ⟨S1024x2, .i1⟩
  | _ => ⟨S1024x2048, .f32⟩

abbrev hbmTy0_1 (i : Nat) : BufTy := match i % 128 with
  | 0 => ⟨S_, .i32⟩
  | 1 => ⟨S1024x2, .i32⟩
  | 2 => ⟨S1024x2, .i32⟩
  | 3 => ⟨S1024x2, .i32⟩
  | 4 => ⟨S_, .i32⟩
  | 5 => ⟨S1024x1, .i32⟩
  | 6 => ⟨S1024x1, .i1⟩
  | 7 => ⟨S_, .i32⟩
  | 8 => ⟨S1024x1, .i32⟩
  | 9 => ⟨S1024x1, .i32⟩
  | 10 => ⟨S1024x1, .i32⟩
  | 11 => ⟨S1024x2, .i32⟩
  | 12 => ⟨S1024x2x1, .i32⟩
  | 13 => ⟨S1024x2x1, .i32⟩
  | 14 => ⟨S1024x2x2, .i32⟩
  | 15 => ⟨S1024x2x64, .f32⟩
  | 16 => ⟨S1024x2x1, .f32⟩
  | 17 => ⟨S1024x2x64, .f32⟩
  | 18 => ⟨S1024x2x64, .f32⟩
  | 19 => ⟨S_, .f32⟩
  | 20 => ⟨S1024x64, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call1_cst : Ref sig .tc := ⟨.hbm, 88, rfl⟩
abbrev main_call1_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_values : Ref sig .tc := ⟨.hbm, 95, rfl⟩
abbrev main_indices : Ref sig .tc := ⟨.hbm, 96, rfl⟩
abbrev main_cst_10 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_13 : Ref sig .tc := ⟨.hbm, 125, rfl⟩
abbrev main_v88 : Ref sig .tc := ⟨.hbm, 126, rfl⟩
abbrev main_v89 : Ref sig .tc := ⟨.hbm, 127, rfl⟩
abbrev main_c_14 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_15 : Ref sig .tc := ⟨.hbm, 132, rfl⟩
abbrev main_v93 : Ref sig .tc := ⟨.hbm, 133, rfl⟩
abbrev main_v94 : Ref sig .tc := ⟨.hbm, 134, rfl⟩
abbrev main_c_16 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩

abbrev nD : Nat := 1
abbrev τ : Topo := Topo.v7x

variable {F : FTy → Type} [FloatOps F]
-- ==== Proof.Frames.lean ====
/- The claims that need no value: the three programs run, leave their arguments and end with every counter at zero, and
   the kernel's two named constants are what their table says. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof.Claims

/-- The printed kernel runs and leaves its arguments. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- And so it does under the precondition. -/
theorem frame_pi_finite : Cert.quiescent_KernelIdeal_pre_finite := fun m ρ _ => Cert.KernelIdeal.Gen.frame m ρ

/-- The reference runs and leaves its arguments. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- And so it does under the precondition. -/
theorem frame_ri_finite : Cert.quiescent_ReferenceIdeal_pre_finite := fun m ρ _ => frame_ri m ρ trivial

/-- The two named constants denote what the table says: `1 / 17` and minus infinity. -/
theorem preserves : Cert.preserves_Kernel_KernelIdeal :=
  ⟨IdealRules.named_const.statement Cert.KernelIdeal.κ "inv_frames" .f32 0x3D70F0F1#32 ((1 / 17 : ℝ) : EReal) rfl,
    IdealRules.named_const.statement Cert.KernelIdeal.κ "mask" .f32 0xF149F2CA#32 ⊥ rfl⟩

end Cert.Proof.Claims

end
-- ==== Proof.Run.lean ====
/- The idealized kernel's run, with what its result array ends holding. -/
module

public import proofs.«01_k».proof.Proof.Gen.KernelIdeal.Frame

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array as the second kernel leaves it and the arguments as launched. -/
theorem run : θ_run defs (onTc (τ := τ) (main (F := F))) ⟨m, fun _ => 0, ρ⟩ (fun r => ∀ c : Dev nD,
      r.2.mem ((c.tc : Thread nD τ).loc main_v61) = W4 m ρ c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v61 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Proof.Ker

end
-- ==== Proof.Finite.lean ====
/- What the precondition says at the ideal instance: every entry of the gate's five operands is a real number. -/
module

public import proofs.«01_k».proof.Pre_finite
public import Idealize.ShloMosaic.Lib.Pointwise
public import Idealize.ShloMosaic.Lib.ReduceAll

@[expose] public section

set_option maxRecDepth 16384

noncomputable section

namespace Cert.Proof.Finite

open Cert.Pre_finite Idealize.ShloMosaic

/-- An ideal value is a real number. -/
def IsReal (x : EReal) : Prop := ∃ r : ℝ, x = r

/-- The conjunction of two bits is one when both are. -/
theorem andi_one {p q : BitVec 1} : IntOp.andi p q = 1#1 ↔ p = 1#1 ∧ q = 1#1 := by revert p q; decide

/-- An ideal value whose absolute value is below infinity is a real number. -/
theorem real_of_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hx : max x (-x) < ⊤ := by
    by_contra hn
    have : Ideal.cmp .olt (max x (-x)) ⊤ = BitVec.ofBool (decide (max x (-x) < ⊤)) := rfl
    rw [this, decide_eq_false hn] at h
    exact absurd h (by decide)
  have h1 : x < ⊤ := lt_of_le_of_lt (le_max_left _ _) hx
  have h2 : -x < ⊤ := lt_of_le_of_lt (le_max_right _ _) hx
  refine ⟨x.toReal, (EReal.coe_toReal h1.ne ?_).symm⟩
  rintro rfl
  exact absurd h2 (by simp)

variable [Facts]

/-- The precondition, read at every entry. -/
theorem of_pre (x : FVec Ideal S1024x2048 .f32) (g1 : FVec Ideal S129x256 .f32) (b1 : FVec Ideal S256 .f32) (g2 : FVec Ideal S256x16 .f32)
    (b2 : FVec Ideal S16 .f32) (w1 : FVec Ideal S16x2048x64 .f32) (c1 : FVec Ideal S16x64 .f32) (w2 : FVec Ideal S16x64x64 .f32) (c2 : FVec Ideal S16x64 .f32)
    (h : fn x g1 b1 g2 b2 w1 c1 w2 c2 = fun _ => 1#1) :
    (∀ i, IsReal (x i)) ∧ (∀ i, IsReal (g1 i)) ∧ (∀ i, IsReal (b1 i)) ∧ (∀ i, IsReal (g2 i)) ∧ ∀ i, IsReal (b2 i) := by
  have h0 := congrFun h (fun a => a.elim0)
  unfold fn fn_part1 at h0
  dsimp only [andi] at h0
  rw [andi_one, andi_one, andi_one, andi_one] at h0
  obtain ⟨⟨⟨⟨a0, a1⟩, a2⟩, a3⟩, a4⟩ := h0
  refine ⟨fun i => ?_, fun i => ?_, fun i => ?_, fun i => ?_, fun i => ?_⟩
  · exact real_of_lt (Host.reduce_andi_all _ _ _ _ _ a0 i)
  · exact real_of_lt (Host.reduce_andi_all _ _ _ _ _ a1 i)
  · exact real_of_lt (Host.reduce_andi_all _ _ _ _ _ a2 i)
  · exact real_of_lt (Host.reduce_andi_all _ _ _ _ _ a3 i)
  · exact real_of_lt (Host.reduce_andi_all _ _ _ _ _ a4 i)

end Cert.Proof.Finite

end
-- ==== Proof.RefTerms.lean ====
/- The reference's result, cut into the stages of its mathematics: the padded signal, the windowed frames, the pooled
   magnitudes, the gate's logits, the two largest of them and their weights, the experts' outputs, and the combination. -/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen Idealize.ShloMosaic Idealize.ShloMosaic.TcCoe Idealize.SL.Sem

/-- The signal with its first 128 samples mirrored in front of it. -/
def front (x : FVec Ideal S1024x2048 .f32) : FVec Ideal S1024x2176 .f32 :=
  concatenate S1024x2176 1 [⟨S1024x128, Host.reverse [1] (extractStridedSlice S1024x128 ![0, 1] x slices_S1024x2048_S1024x128_0_1)⟩,
    ⟨S1024x2048, x⟩] concatenates_S1024x128_S1024x2048_S1024x2176_d1

/-- The signal mirrored at both ends. -/
def padded (x : FVec Ideal S1024x2048 .f32) : FVec Ideal S1024x2304 .f32 :=
  concatenate S1024x2304 1 [⟨S1024x2176, front x⟩,
    ⟨S1024x128, Host.reverse [1] (extractStridedSlice S1024x128 ![0, 2047] (front x) slices_S1024x2176_S1024x128_0_2047)⟩]
    concatenates_S1024x2176_S1024x128_S1024x2304_d1

/-- The periodic Hann window. -/
def win : FVec Ideal S256 .f32 :=
  mulf (broadcastInDim S256 ![] bcast_S_S256 (constant S_ .f32 0x3F000000#32))
    (subf (broadcastInDim S256 ![] bcast_S_S256 (constant S_ .f32 0x3F800000#32))
      (Host.cos (Host.divf
        (mulf (broadcastInDim S256 ![] bcast_S_S256 (constant S_ .f32 0x40C90FDB#32)) (sitofp .f32 (iotaInDim S256 32 0)))
        (broadcastInDim S256 ![] bcast_S_S256 (constant S_ .f32 0x43800000#32)))))

/-- The position of sample `n` of frame `t`, before the wrap of negative indices. -/
def pos : IVec S17x256 32 :=
  addi (broadcastInDim S17x256 ![0, 1] bcast_S17x1_S17x256_0_1
      (muli (broadcastInDim S17x1 ![0] bcast_S17_S17x1_0 (iotaInDim S17 32 0))
        (broadcastInDim S17x1 ![] bcast_S_S17x1 (constantI S_ 32 128#32))))
    (broadcastInDim S17x256 ![0, 1] bcast_S1x256_S17x256_0_1
      (broadcastInDim S1x256 ![1] bcast_S256_S1x256_1 (iotaInDim S256 32 0)))

/-- The same after the wrap, as the lookup's index vector. -/
def idx : IVec S17x256x1 32 :=
  broadcastInDim S17x256x1 ![0, 1] bcast_S17x256_S17x256x1_0_1
    (select (cmpi .slt pos (broadcastInDim S17x256 ![] bcast_S_S17x256 (constantI S_ 32 0#32)))
      (addi pos (broadcastInDim S17x256 ![] bcast_S_S17x256 (constantI S_ 32 2304#32))) pos)

/-- The windowed frames. -/
def frames (x : FVec Ideal S1024x2048 .f32) : FVec Ideal S1024x17x256 .f32 :=
  mulf (Host.gather gather_S1024x2304_S17x256x1_S1024x17x256_0_1_n_n_1_2_10241 (padded x) idx)
    (broadcastInDim S1024x17x256 ![0, 1, 2] bcast_S1x1x256_S1024x17x256_0_1_2
      (id (broadcastInDim S1x1x256 ![2] bcast_S256_S1x1x256_2 win)))

/-- The transform's angles `2 π n f / 256`. -/
def ang : FVec Ideal S256x129 .f32 :=
  Host.divf
    (mulf (broadcastInDim S256x129 ![] bcast_S_S256x129 (constant S_ .f32 0x40C90FDB#32))
      (mulf (broadcastInDim S256x129 ![0, 1] bcast_S256x1_S256x129_0_1
          (broadcastInDim S256x1 ![0] bcast_S256_S256x1_0 (sitofp .f32 (iotaInDim S256 32 0))))
        (broadcastInDim S256x129 ![0, 1] bcast_S1x129_S256x129_0_1
          (broadcastInDim S1x129 ![1] bcast_S129_S1x129_1 (sitofp .f32 (iotaInDim S129 32 0))))))
    (broadcastInDim S256x129 ![] bcast_S_S256x129 (constant S_ .f32 0x43800000#32))

/-- The magnitude of a transform from its cosine and sine sums. -/
def mag (x : FVec Ideal S1024x2048 .f32) : FVec Ideal S1024x17x129 .f32 :=
  Host.sqrt (addf
    (mulf (Host.dotGeneral dot_S1024x17x256_S256x129_S1024x17x129_2_0_01_1_n_n none (frames x) (Host.cos ang))
      (Host.dotGeneral dot_S1024x17x256_S256x129_S1024x17x129_2_0_01_1_n_n none (frames x) (Host.cos ang)))
    (mulf (Host.negf (Host.dotGeneral dot_S1024x17x256_S256x129_S1024x17x129_2_0_01_1_n_n none (frames x) (Host.sin ang)))
      (Host.negf (Host.dotGeneral dot_S1024x17x256_S256x129_S1024x17x129_2_0_01_1_n_n none (frames x) (Host.sin ang)))))

/-- The mean of the magnitudes over the frames. -/
def pooled (x : FVec Ideal S1024x2048 .f32) : FVec Ideal S1024x129 .f32 :=
  Host.divf (Host.reduceAdd (transpose S1024x129x17 [0, 2, 1] (mag x) transposes_S1024x17x129_S1024x129x17_0_2_1)
      (constant S_ .f32 0x00000000#32) reducesTo_S1024x129x17_S1024x129_d2 h_S_)
    (broadcastInDim S1024x129 ![] bcast_S_S1024x129 (constant S_ .f32 0x41880000#32))

/-- The gate's logits from pooled magnitudes. -/
def gate (p : FVec Ideal S1024x129 .f32) (g1 : FVec Ideal S129x256 .f32) (b1 : FVec Ideal S256 .f32)
    (g2 : FVec Ideal S256x16 .f32) (b2 : FVec Ideal S16 .f32) : FVec Ideal S1024x16 .f32 :=
  addf (Host.dotGeneral dot_S1024x256_S256x16_S1024x16_1_0_0_1_n_n none
      (maximumf (addf (Host.dotGeneral dot_S1024x129_S129x256_S1024x256_1_0_0_1_n_n none p g1)
          (broadcastInDim S1024x256 ![0, 1] bcast_S1x256_S1024x256_0_1 (broadcastInDim S1x256 ![1] bcast_S256_S1x256_1 b1)))
        (broadcastInDim S1024x256 ![] bcast_S_S1024x256 (constant S_ .f32 0x00000000#32))) g2)
    (broadcastInDim S1024x16 ![0, 1] bcast_S1x16_S1024x16_0_1 (broadcastInDim S1x16 ![1] bcast_S16_S1x16_1 b2))

/-- The two largest logits of a row. -/
def topv (L : FVec Ideal S1024x16 .f32) : FVec Ideal S1024x2 .f32 :=
  (Host.topK S1024x2 1 (FloatOps.cmpfTotal .gt) L sliceFits_S1024x16_S1024x2).1

/-- Their positions. -/
def topi (L : FVec Ideal S1024x16 .f32) : IVec S1024x2 32 :=
  (Host.topK S1024x2 1 (FloatOps.cmpfTotal .gt) L sliceFits_S1024x16_S1024x2).2

/-- The exponentials of two values less the larger. -/
def expd (v : FVec Ideal S1024x2 .f32) : FVec Ideal S1024x2 .f32 :=
  Host.exp (subf v (broadcastInDim S1024x2 ![0, 1] bcast_S1024x1_S1024x2_0_1 (broadcastInDim S1024x1 ![0] bcast_S1024_S1024x1_0
    (maximumf (broadcastInDim S1024 ![] bcast_S_S1024 (constant S_ .f32 0xFF800000#32))
      (Host.reduce FloatOps.maximumf v (constant S_ .f32 0xFF800000#32) reducesTo_S1024x2_S1024_d1 h_S_)))))

/-- The softmax of two values. -/
def soft (v : FVec Ideal S1024x2 .f32) : FVec Ideal S1024x2 .f32 :=
  Host.divf (expd v) (broadcastInDim S1024x2 ![0, 1] bcast_S1024x1_S1024x2_0_1 (broadcastInDim S1024x1 ![0] bcast_S1024_S1024x1_0
    (Host.reduceAdd (expd v) (constant S_ .f32 0x00000000#32) reducesTo_S1024x2_S1024_d1 h_S_)))

/-- The experts' hidden layers. -/
def hidden (x : FVec Ideal S1024x2048 .f32) (w1 : FVec Ideal S16x2048x64 .f32) (b1 : FVec Ideal S16x64 .f32) :
    FVec Ideal S16x1024x64 .f32 :=
  maximumf (addf (transpose S16x1024x64 [0, 2, 1] (Host.dotGeneral dot_S16x2048x64_S1024x2048_S16x64x1024_1_1_02_0_n_n none w1 x)
        transposes_S16x64x1024_S16x1024x64_0_2_1)
      (broadcastInDim S16x1024x64 ![0, 1, 2] bcast_S16x1x64_S16x1024x64_0_1_2 (broadcastInDim S16x1x64 ![0, 2] bcast_S16x64_S16x1x64_0_2 b1)))
    (broadcastInDim S16x1024x64 ![] bcast_S_S16x1024x64 (constant S_ .f32 0x00000000#32))

/-- The experts' outputs. -/
def outs (h : FVec Ideal S16x1024x64 .f32) (w2 : FVec Ideal S16x64x64 .f32) (b2 : FVec Ideal S16x64 .f32) :
    FVec Ideal S16x1024x64 .f32 :=
  addf (Host.dotGeneral dot_S16x1024x64_S16x64x64_S16x1024x64_2_1_1_2_0_0 none h w2)
    (broadcastInDim S16x1024x64 ![0, 1, 2] bcast_S16x1x64_S16x1024x64_0_1_2 (broadcastInDim S16x1x64 ![0, 2] bcast_S16x64_S16x1x64_0_2 b2))

/-- A row's two expert indices after the wrap of negative ones. -/
def expertIdx (i : IVec S1024x2 32) : IVec S1024x2 32 :=
  select (cmpi .slt i (broadcastInDim S1024x2 ![] bcast_S_S1024x2 (constantI S_ 32 0#32)))
    (addi i (broadcastInDim S1024x2 ![] bcast_S_S1024x2 (constantI S_ 32 16#32))) i

/-- A row's own number after the wrap of negative ones. -/
def rowIdx : IVec S1024x1 32 :=
  select (cmpi .slt (broadcastInDim S1024x1 ![0] bcast_S1024_S1024x1_0 (iotaInDim S1024 32 0))
      (broadcastInDim S1024x1 ![] bcast_S_S1024x1 (constantI S_ 32 0#32)))
    (addi (broadcastInDim S1024x1 ![0] bcast_S1024_S1024x1_0 (iotaInDim S1024 32 0))
      (broadcastInDim S1024x1 ![] bcast_S_S1024x1 (constantI S_ 32 1024#32)))
    (broadcastInDim S1024x1 ![0] bcast_S1024_S1024x1_0 (iotaInDim S1024 32 0))

/-- The pairs (expert, row) that are looked up. -/
def pairs (i : IVec S1024x2 32) : IVec S1024x2x2 32 :=
  concatenate S1024x2x2 2 [⟨S1024x2x1, broadcastInDim S1024x2x1 ![0, 1] bcast_S1024x2_S1024x2x1_0_1 (expertIdx i)⟩,
    ⟨S1024x2x1, broadcastInDim S1024x2x1 ![0, 1] bcast_S1024x2_S1024x2x1_0_1
      (broadcastInDim S1024x2 ![0, 1] bcast_S1024x1_S1024x2_0_1 rowIdx)⟩] concatenates_S1024x2x1_S1024x2x1_S1024x2x2_d2

/-- The weighted sum of the two chosen experts' outputs. -/
def combine (w : FVec Ideal S1024x2 .f32) (i : IVec S1024x2 32) (eo : FVec Ideal S16x1024x64 .f32) : FVec Ideal S1024x64 .f32 :=
  Host.reduceAdd (mulf (broadcastInDim S1024x2x64 ![0, 1, 2] bcast_S1024x2x1_S1024x2x64_0_1_2
        (broadcastInDim S1024x2x1 ![0, 1] bcast_S1024x2_S1024x2x1_0_1 w))
      (Host.gather gather_S16x1024x64_S1024x2x2_S1024x2x64_2_01_n_n_01_2_1164 eo (pairs i)))
    (constant S_ .f32 0x00000000#32) reducesTo_S1024x2x64_S1024x64_d1 h_S_

/-- The whole reference as a function of its nine arguments. -/
def result (x : FVec Ideal S1024x2048 .f32) (g1 : FVec Ideal S129x256 .f32) (b1 : FVec Ideal S256 .f32)
    (g2 : FVec Ideal S256x16 .f32) (b2 : FVec Ideal S16 .f32) (w1 : FVec Ideal S16x2048x64 .f32) (c1 : FVec Ideal S16x64 .f32)
    (w2 : FVec Ideal S16x64x64 .f32) (c2 : FVec Ideal S16x64 .f32) : FVec Ideal S1024x64 .f32 :=
  combine (soft (topv (gate (pooled x) g1 b1 g2 b2))) (topi (gate (pooled x) g1 b1 g2 b2)) (outs (hidden x w1 c1) w2 c2)

set_option maxRecDepth 16384 in
/-- The reference program's result is that function of the arguments it finds in memory. -/
theorem res_eq (m : (ℓ : Loc nD τ sig) → Buf (Elt Ideal) ℓ) (c : Dev nD) :
    Cert.ReferenceIdeal.Value.res_main_v106 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v106; rfl

end Cert.Proof.Ref

end
-- ==== Proof.RefRead.lean ====
/- The reference's stages, each read at an index. -/
module

public import proofs.«01_k».proof.Proof.RefTerms
public import Idealize.ShloMosaic.Lib.Tactic.WordOmega

@[expose] public section

set_option maxRecDepth 16384

noncomputable section

namespace Cert.Proof.Ref

open Cert.ReferenceIdeal Cert.ReferenceIdeal.Gen Idealize.ShloMosaic Idealize.ShloMosaic.TcCoe Idealize.SL.Sem

/-- The lookup of frames reads the padded row at the position the index vector holds. -/
theorem gather_frames (p : FVec Ideal S1024x2304 .f32) (i : IVec S17x256x1 32) (b : Fin 1024) (t : Fin 17) (n : Fin 256)
    (k : Fin 2304) (hk : i (ix3 t n 0) = BitVec.ofNat 32 k.val) :
    Host.gather gather_S1024x2304_S17x256x1_S1024x17x256_0_1_n_n_1_2_10241 p i (ix3 b t n) = p (ix2 b k) := by
  unfold Host.gather
  refine congrArg p (funext fun a => Fin.ext ?_)
  match a with
  | ⟨0, _⟩ =>
    show 0 + 0 + b.val = b.val
    omega
  | ⟨1, _⟩ =>
    show min (i (GatherDims.siIdx gather_S1024x2304_S17x256x1_S1024x17x256_0_1_n_n_1_2_10241 (ix3 b t n) ⟨0, by decide⟩)).toInt.toNat (2304 - 1) + 0 + 0 = k.val
    have e : GatherDims.siIdx gather_S1024x2304_S17x256x1_S1024x17x256_0_1_n_n_1_2_10241 (ix3 b t n) ⟨0, by decide⟩ = ix3 t n 0 := by
      funext a
      fin_cases a <;> rfl
    rw [e, hk]
    have := k.isLt
    word_omega

/-- The lookup of experts' outputs reads the expert and the row that the index pair holds. -/
theorem gather_outs (eo : FVec Ideal S16x1024x64 .f32) (i : IVec S1024x2x2 32) (b : Fin 1024) (k : Fin 2) (o : Fin 64)
    (e : Fin 16) (r : Fin 1024) (he : i (ix3 b k 0) = BitVec.ofNat 32 e.val) (hr : i (ix3 b k 1) = BitVec.ofNat 32 r.val) :
    Host.gather gather_S16x1024x64_S1024x2x2_S1024x2x64_2_01_n_n_01_2_1164 eo i (ix3 b k o) = eo (ix3 e r o) := by
  unfold Host.gather
  refine congrArg eo (funext fun a => Fin.ext ?_)
  have e0 : GatherDims.siIdx gather_S16x1024x64_S1024x2x2_S1024x2x64_2_01_n_n_01_2_1164 (ix3 b k o) ⟨0, by decide⟩ = ix3 b k 0 := by
    funext a; fin_cases a <;> rfl
  have e1 : GatherDims.siIdx gather_S16x1024x64_S1024x2x2_S1024x2x64_2_01_n_n_01_2_1164 (ix3 b k o) ⟨1, by decide⟩ = ix3 b k 1 := by
    funext a; fin_cases a <;> rfl
  match a with
  | ⟨0, _⟩ =>
    show min (i (GatherDims.siIdx gather_S16x1024x64_S1024x2x2_S1024x2x64_2_01_n_n_01_2_1164 (ix3 b k o) ⟨0, by decide⟩)).toInt.toNat (16 - 1) + 0 + 0 = e.val
    rw [e0, he]
    have := e.isLt
    word_omega
  | ⟨1, _⟩ =>
    show min (i (GatherDims.siIdx gather_S16x1024x64_S1024x2x2_S1024x2x64_2_01_n_n_01_2_1164 (ix3 b k o) ⟨1, by decide⟩)).toInt.toNat (1024 - 1) + 0 + 0 = r.val
    rw [e1, hr]
    have := r.isLt
    word_omega
  | ⟨2, _⟩ =>
    show 0 + 0 + o.val = o.val
    omega

/-- A row's position before the wrap is `128 t + n`. -/
theorem pos_apply (t : Fin 17) (n : Fin 256) : pos (ix2 t n) = BitVec.ofNat 32 (t.val * 128 + n.val) := by
  have := t.isLt
  have := n.isLt
  pointwise [pos]
  have h : IntOp.muli (BitVec.ofNat 32 t.val) 128#32 = BitVec.ofNat 32 (t.val * 128) := by
    unfold IntOp.muli
    rw [BitVec.ofNat_mul]
  rw [h]
  word_omega

/-- The wrapped position is `128 t + n` too: none is negative. -/
theorem idx_apply (t : Fin 17) (n : Fin 256) : idx (ix3 t n 0) = BitVec.ofNat 32 (t.val * 128 + n.val) := by
  have := t.isLt
  have := n.isLt
  pointwise [idx]
  rw [pos_apply]
  have h : IntOp.cmpi .slt (BitVec.ofNat 32 (t.val * 128 + n.val)) 0#32 = 0#1 := by
    word_omega
  rw [h]
  rfl

/-- The row with its first 128 entries after entry 0 reflected in front. -/
theorem front_apply (x : FVec Ideal S1024x2048 .f32) (b : Fin 1024) (p : Fin 2176) :
    front x (ix2 b p) = x (ix2 b (if h : p.val < 128 then ⟨128 - p.val, by omega⟩ else ⟨p.val - 128, by have := p.isLt; omega⟩)) := by
  pointwise [front]
  split
  · refine congrArg x ?_
    simp
    exact congrArg (ix2 b) (Fin.ext (by show 1 + (127 - p.val) = 128 - p.val; omega))
  · rfl

/-- The column of the row that the padded row holds at `p`. -/
def srcCol (p : Nat) : Nat := if p < 128 then 128 - p else if p < 2176 then p - 128 else 4222 - p

/-- It is a column. -/
theorem srcCol_lt (p : Nat) (h : p < 2304) : srcCol p < 2048 := by
  unfold srcCol
  split_ifs <;> omega

/-- The padded row holds the reflected entries at both ends. -/
theorem padded_apply (x : FVec Ideal S1024x2048 .f32) (b : Fin 1024) (p : Fin 2304) :
    padded x (ix2 b p) = x (ix2 b ⟨srcCol p.val, srcCol_lt _ p.isLt⟩) := by
  have hp := p.isLt
  pointwise [padded]
  split
  · rename_i h
    rw [front_apply]
    refine congrArg x (congrArg (ix2 b) (Fin.ext ?_))
    unfold srcCol
    show (dite _ _ _ : Fin 2048).val = _
    split_ifs <;> rfl
  · rename_i h
    have e : ∀ q : Fin 2176, q.val = 2047 + (127 - (p.val - 2176)) → front x (ix2 b q) = x (ix2 b ⟨srcCol p.val, srcCol_lt _ p.isLt⟩) := by
      intro q hq
      rw [front_apply]
      refine congrArg x (congrArg (ix2 b) (Fin.ext ?_))
      rw [dif_neg (by omega)]
      show q.val - 128 = srcCol p.val
      unfold srcCol
      rw [if_neg (by omega), if_neg (by omega)]
      omega
    refine (congrArg (front x) (?_ : _ = ix2 b ⟨2047 + (127 - (p.val - 2176)), by omega⟩)).trans (e _ rfl)
    simp

/-- Frame `t`'s sample `n`: the row's entry there, by the window's. -/
theorem frames_apply (x : FVec Ideal S1024x2048 .f32) (b : Fin 1024) (t : Fin 17) (n : Fin 256) :
    frames x (ix3 b t n) = x (ix2 b ⟨srcCol (t.val * 128 + n.val), srcCol_lt _ (by have := t.isLt; have := n.isLt; omega)⟩) * win (ix1 n) := by
  have h := gather_frames (padded x) idx b t n ⟨t.val * 128 + n.val, by have := t.isLt; have := n.isLt; omega⟩ (idx_apply t n)
  rw [padded_apply] at h
  rw [← h]
  unfold frames
  have hw : broadcastInDim S1x1x256 ![2] bcast_S256_S1x1x256_2 win (ix3 0 0 n) = win (ix1 n) := by
    pointwise []
  rw [← hw]
  pointwise []
  rfl

/-- The window's entry. -/
theorem win_apply (n : Fin 256)  : win (ix1 n) = Ideal.ofBits .f32 1056964608#32 * (1 - Ideal.cos (Ideal.div (Ideal.ofBits .f32 1086918619#32 * FloatOps.sitofp (F := Ideal) .f32 (BitVec.ofNat 32 n.val)) (Ideal.ofBits .f32 1132462080#32))) := by
  pointwise [win]

/-- The angle at sample `n` and frequency `f`. -/
theorem ang_apply (n : Fin 256) (f : Fin 129) : ang (ix2 n f) = Ideal.div (Ideal.ofBits .f32 1086918619#32 * (FloatOps.sitofp (F := Ideal) .f32 (BitVec.ofNat 32 n.val) * FloatOps.sitofp (F := Ideal) .f32 (BitVec.ofNat 32 f.val))) (Ideal.ofBits .f32 1132462080#32) := by
  pointwise [ang]

/-- A frame's magnitude at a frequency. -/
theorem mag_apply (x : FVec Ideal S1024x2048 .f32) (b : Fin 1024) (t : Fin 17) (f : Fin 129) : mag x (ix3 b t f) =
    Ideal.sqrt ((∑ n, frames x (ix3 b t n) * Ideal.cos (ang (ix2 n f))) * (∑ n, frames x (ix3 b t n) * Ideal.cos (ang (ix2 n f)))
      + (-∑ n, frames x (ix3 b t n) * Ideal.sin (ang (ix2 n f))) * (-∑ n, frames x (ix3 b t n) * Ideal.sin (ang (ix2 n f)))) := by
  pointwise [mag]

/-- The mean magnitude at a frequency. -/
theorem pooled_apply (x : FVec Ideal S1024x2048 .f32) (b : Fin 1024)  (f : Fin 129) :
    pooled x (ix2 b f) = Ideal.div (∑ t, mag x (ix3 b t f)) (Ideal.ofBits .f32 1099431936#32) := by
  pointwise [pooled]

/-- The gate's logit of an expert. -/
theorem gate_apply (p : FVec Ideal S1024x129 .f32) (g1 : FVec Ideal S129x256 .f32) (b1 : FVec Ideal S256 .f32)
    (g2 : FVec Ideal S256x16 .f32) (b2 : FVec Ideal S16 .f32) (b : Fin 1024) (e : Fin 16) : gate p g1 b1 g2 b2 (ix2 b e) =
      ∑ k, max (∑ f, p (ix2 b f) * g1 (ix2 f k) + b1 (ix1 k)) 0 * g2 (ix2 k e) + b2 (ix1 e) := by
  pointwise [gate]

/-- The weight of a row's choice. -/
theorem soft_apply (v : FVec Ideal S1024x2 .f32) (b : Fin 1024) (k : Fin 2) : soft v (ix2 b k) =
    Ideal.div (Ideal.exp (v (ix2 b k) - max (Ideal.ofBits .f32 4286578688#32) (Finset.fold max (Ideal.ofBits .f32 4286578688#32) (fun x => v (ix2 b x)) Finset.univ)))
      (∑ k, Ideal.exp (v (ix2 b k) - max (Ideal.ofBits .f32 4286578688#32) (Finset.fold max (Ideal.ofBits .f32 4286578688#32) (fun x => v (ix2 b x)) Finset.univ))) := by
  pointwise [soft, expd]

/-- A hidden unit of an expert. -/
theorem hidden_apply  (x : FVec Ideal S1024x2048 .f32) (w1 : FVec Ideal S16x2048x64 .f32) (b1 : FVec Ideal S16x64 .f32) (e : Fin 16) (b : Fin 1024) (h : Fin 64) :
    hidden x w1 b1 (ix3 e b h) = max (∑ l, w1 (ix3 e l h) * x (ix2 b l) + b1 (ix2 e h)) 0 := by
  pointwise [hidden]

/-- An expert's output. -/
theorem outs_apply  (h : FVec Ideal S16x1024x64 .f32) (w2 : FVec Ideal S16x64x64 .f32) (b2 : FVec Ideal S16x64 .f32) (e : Fin 16) (b : Fin 1024) (o : Fin 64) :
    outs h w2 b2 (ix3 e b o) = ∑ k, h (ix3 e b k) * w2 (ix3 e k o) + b2 (ix2 e o) := by
  pointwise [outs]

/-- A choice's expert, after the wrap, is the expert: none is negative. -/
theorem expertIdx_apply (i : IVec S1024x2 32) (b : Fin 1024) (k : Fin 2) (e : Fin 16) (h : i (ix2 b k) = BitVec.ofNat 32 e.val) :
    expertIdx i (ix2 b k) = BitVec.ofNat 32 e.val := by
  have := e.isLt
  pointwise [expertIdx]
  rw [h]
  have h : IntOp.cmpi .slt (BitVec.ofNat 32 e.val) 0#32 = 0#1 := by
    word_omega
  rw [h]
  rfl

/-- A row's number, after the wrap, is the row's number. -/
theorem rowIdx_apply (b : Fin 1024)  : rowIdx (ix2 b 0) = BitVec.ofNat 32 b.val := by
  have := b.isLt
  pointwise [rowIdx]
  have h : IntOp.cmpi .slt (BitVec.ofNat 32 b.val) 0#32 = 0#1 := by
    word_omega
  rw [h]
  rfl

/-- The first of a choice's two indices is its expert. -/
theorem pairs_expert (i : IVec S1024x2 32) (b : Fin 1024) (k : Fin 2) : pairs i (ix3 b k 0) = expertIdx i (ix2 b k) := by
  pointwise [pairs]

/-- The second is its row. -/
theorem pairs_row (i : IVec S1024x2 32) (b : Fin 1024) (k : Fin 2) : pairs i (ix3 b k 1) = rowIdx (ix2 b 0) := by
  pointwise [pairs]

/-- The result: the chosen experts' outputs, weighted. -/
theorem combine_apply (w : FVec Ideal S1024x2 .f32) (i : IVec S1024x2 32) (eo : FVec Ideal S16x1024x64 .f32) (b : Fin 1024) (o : Fin 64) (e : Fin 2 → Fin 16)
    (h : ∀ k, i (ix2 b k) = BitVec.ofNat 32 (e k).val) :
    combine w i eo (ix2 b o) = ∑ k, w (ix2 b k) * eo (ix3 (e k) b o) := by
  pointwise [combine]
  refine Finset.sum_congr rfl fun k _ => ?_
  rw [gather_outs eo (pairs i) b k o (e k) b ((pairs_expert i b k).trans (expertIdx_apply i b k (e k) (h k))) ((pairs_row i b k).trans (rowIdx_apply b))]

end Cert.Proof.Ref

end
-- ==== Proof.TopTwo.lean ====
/- The two largest of finitely many extended reals, ties broken by the lower position: as a stable descending sort leaves
   them, and as a maximum, the least position that attains it, and the same again with that position masked. -/
module

public import Idealize.ShloMosaic.Lib.Pointwise
public import Idealize.ShloMosaic.Lib.SortFacts
public import Idealize.ShloMosaic.Lib.PlanTiles.StableSort

@[expose] public section

noncomputable section

namespace Cert.Proof.TopTwo

open Finset Idealize.ShloMosaic

variable {n : ℕ} (L : Fin n → EReal)

/-- `a` comes before `b`: its value is larger, or equal at a lower position. -/
def Before (a b : Fin n) : Prop := L b < L a ∨ (L a = L b ∧ a < b)

/-- `a` comes before every other position. -/
def First (a : Fin n) : Prop := ∀ e, e ≠ a → Before L a e

/-- `b` comes before every other position but `a`. -/
def Second (a b : Fin n) : Prop := b ≠ a ∧ ∀ e, e ≠ a → e ≠ b → Before L b e

/-- How many values are less than `L k`. -/
def below (k : Fin n) : ℕ := (univ.filter fun e => L e < L k).card

/-- Fewer values lie below the smaller of two entries, and only below the smaller. -/
theorem below_lt (x y : Fin n) : below L y < below L x ↔ L y < L x := by
  constructor
  · intro h
    by_contra hn
    exact absurd h (not_lt.2 (card_le_card fun e he => by
      rw [mem_filter] at he ⊢
      exact ⟨mem_univ e, lt_of_lt_of_le he.2 (not_lt.1 hn)⟩))
  · intro h
    refine card_lt_card ⟨fun e he => ?_, fun hs => ?_⟩
    · rw [mem_filter] at he ⊢
      exact ⟨mem_univ e, lt_trans he.2 h⟩
    · have := hs (mem_filter.2 ⟨mem_univ y, h⟩)
      exact absurd (mem_filter.1 this).2 (lt_irrefl _)

/-- Two entries with as many values below them are equal. -/
theorem below_eq (x y : Fin n) (h : below L x = below L y) : L x = L y := by
  rcases lt_trichotomy (L x) (L y) with h1 | h1 | h1
  · have := (below_lt L y x).2 h1; omega
  · exact h1
  · have := (below_lt L x y).2 h1; omega

/-- The stable descending sort's positions. -/
def sorted (k : Fin n) : Fin n := sortedFrom (fun x y => decide (L y < L x)) k

/-- A lower place in the sort comes before a higher one. -/
theorem sorted_before (k k' : Fin n) (h : k < k') : Before L (sorted L k) (sorted L k') := by
  have hp := PlanTiles.pairwise_stableSort_lex (below L) (· < ·) (List.finRange n) (List.pairwise_lt_finRange n)
  have hf : (fun x y : Fin n => decide (below L y < below L x)) = fun x y => decide (L y < L x) := by
    funext x y
    exact decide_eq_decide.2 (below_lt L x y)
  rw [hf] at hp
  have hg := (List.pairwise_iff_getElem.1 hp) k.val k'.val
    (by rw [length_stableSort, List.length_finRange]; exact k.isLt)
    (by rw [length_stableSort, List.length_finRange]; exact k'.isLt) h
  rcases hg with h1 | ⟨h1, h2⟩
  · exact Or.inl ((below_lt L _ _).1 h1)
  · exact Or.inr ⟨below_eq L _ _ h1, h2⟩

/-- The sort reaches every position. -/
theorem sorted_surjective : Function.Surjective (sorted L) := sortedFrom_surjective _

/-- The sort names no position twice. -/
theorem sorted_injective : Function.Injective (sorted L) := sortedFrom_injective _

end Cert.Proof.TopTwo

end
-- ==== Proof.Experts.lean ====
/- A weight vector with two entries, and the experts' sum under it: what the kernel adds up group by group, against the
   two experts' outputs weighted. -/
module

public import Idealize.ShloMosaic.Lib.Pointwise

@[expose] public section

noncomputable section

namespace Cert.Proof.Experts

open Finset

/-- A nonnegative finite factor distributes over a finite sum of extended reals. -/
theorem mul_sum_of_nonneg {ι : Type} (s : Finset ι) (f : ι → EReal) (w : EReal) (h0 : 0 ≤ w) (ht : w ≠ ⊤) :
    w * ∑ i ∈ s, f i = ∑ i ∈ s, w * f i := by
  classical
  induction s using Finset.induction_on with
  | empty => simp
  | insert a s ha ih => rw [sum_insert ha, sum_insert ha, EReal.left_distrib_of_nonneg_of_ne_top h0 ht, ih]

/-- The weight vector: `w₁` at expert `i₁`, `w₂` at expert `i₂`. -/
def weight (i₁ i₂ : Fin 16) (w₁ w₂ : EReal) (e : Fin 16) : EReal := (if e = i₁ then w₁ else 0) + (if e = i₂ then w₂ else 0)

/-- A weight vector of two nonnegative weights is nonnegative. -/
theorem weight_nonneg (i₁ i₂ : Fin 16) (w₁ w₂ : EReal) (h₁ : 0 ≤ w₁) (h₂ : 0 ≤ w₂) (e : Fin 16) : 0 ≤ weight i₁ i₂ w₁ w₂ e := by
  unfold weight
  exact add_nonneg (by split <;> simp [h₁]) (by split <;> simp [h₂])

/-- A weight vector of two weights below infinity stays below infinity. -/
theorem weight_ne_top (i₁ i₂ : Fin 16) (w₁ w₂ : EReal) (h₁ : w₁ ≠ ⊤) (h₂ : w₂ ≠ ⊤) (e : Fin 16) : weight i₁ i₂ w₁ w₂ e ≠ ⊤ := by
  unfold weight
  exact EReal.add_ne_top (by split <;> simp [h₁]) (by split <;> simp [h₂])

/-- A sum under the weight vector is its two terms. -/
theorem sum_weight (i₁ i₂ : Fin 16) (w₁ w₂ : EReal) (hi : i₁ ≠ i₂) (f : Fin 16 → EReal) :
    ∑ e, weight i₁ i₂ w₁ w₂ e * f e = w₁ * f i₁ + w₂ * f i₂ := by
  have h : ∀ e, weight i₁ i₂ w₁ w₂ e * f e = (if e = i₁ then w₁ * f e else 0) + (if e = i₂ then w₂ * f e else 0) := by
    intro e
    unfold weight
    by_cases h1 : e = i₁
    · have h2 : e ≠ i₂ := fun h => hi (h1.symm.trans h)
      rw [if_pos h1, if_neg h2, if_pos h1, if_neg h2, add_zero, add_zero]
    · by_cases h2 : e = i₂
      · rw [if_neg h1, if_pos h2, if_neg h1, if_pos h2, zero_add, zero_add]
      · rw [if_neg h1, if_neg h2, if_neg h1, if_neg h2, add_zero, zero_mul]
  rw [sum_congr rfl fun e _ => h e, sum_add_distrib, sum_ite_eq' univ i₁, sum_ite_eq' univ i₂]
  simp

/-- Expert `4 g + j / 64`, the one that column `j` of group `g` belongs to. -/
def expertOf (g : Fin 4) (j : Fin 256) : Fin 16 := ⟨4 * g.val + j.val / 64, by have := g.isLt; have := j.isLt; omega⟩

/-- Unit `j % 64`, the one of its expert that column `j` is. -/
def unitOf (j : Fin 256) : Fin 64 := ⟨j.val % 64, by omega⟩

/-- The columns of the four groups are the units of the sixteen experts. -/
theorem sum_groups (T : Fin 16 → Fin 64 → EReal) :
    ∑ g : Fin 4, ∑ j : Fin 256, T (expertOf g j) (unitOf j) = ∑ e : Fin 16, ∑ h : Fin 64, T e h := by
  rw [← Finset.sum_product' (s := univ) (t := univ) (f := fun (g : Fin 4) (j : Fin 256) => T (expertOf g j) (unitOf j)),
    ← Finset.sum_product' (s := univ) (t := univ) (f := fun (e : Fin 16) (h : Fin 64) => T e h)]
  refine Finset.sum_nbij' (fun p => (expertOf p.1 p.2, unitOf p.2))
    (fun q => (⟨q.1.val / 4, by have := q.1.isLt; omega⟩, ⟨q.1.val % 4 * 64 + q.2.val, by have := q.2.isLt; omega⟩))
    (fun _ _ => by simp) (fun _ _ => by simp) ?_ ?_ (fun _ _ => rfl)
  · rintro ⟨g, j⟩ _
    have := g.isLt; have := j.isLt
    refine Prod.ext (Fin.ext ?_) (Fin.ext ?_) <;> simp only [expertOf, unitOf] <;> omega
  · rintro ⟨e, h⟩ _
    have := e.isLt; have := h.isLt
    refine Prod.ext (Fin.ext ?_) (Fin.ext ?_) <;> simp only [expertOf, unitOf] <;> omega

/-- The bias term and the four groups' contributions, added in the kernel's order, are the two chosen experts' outputs,
    weighted. -/
theorem combine (i₁ i₂ : Fin 16) (w₁ w₂ : EReal) (hi : i₁ ≠ i₂) (h₁ : 0 ≤ w₁) (t₁ : w₁ ≠ ⊤) (h₂ : 0 ≤ w₂) (t₂ : w₂ ≠ ⊤)
    (H : Fin 16 → Fin 64 → EReal) (V : Fin 16 → Fin 64 → EReal) (b : Fin 16 → EReal) :
    (∑ e, weight i₁ i₂ w₁ w₂ e * b e)
        + ∑ g : Fin 4, ∑ j : Fin 256, H (expertOf g j) (unitOf j) * weight i₁ i₂ w₁ w₂ (expertOf g j) * V (expertOf g j) (unitOf j)
      = w₁ * ((∑ h, H i₁ h * V i₁ h) + b i₁) + w₂ * ((∑ h, H i₂ h * V i₂ h) + b i₂) := by
  rw [sum_groups fun e h => H e h * weight i₁ i₂ w₁ w₂ e * V e h]
  have h : ∀ e, ∑ h, H e h * weight i₁ i₂ w₁ w₂ e * V e h = weight i₁ i₂ w₁ w₂ e * ∑ h, H e h * V e h := fun e => by
    rw [mul_sum_of_nonneg _ _ _ (weight_nonneg _ _ _ _ h₁ h₂ e) (weight_ne_top _ _ _ _ t₁ t₂ e)]
    exact sum_congr rfl fun k _ => by rw [mul_comm (H e k), mul_assoc]
  rw [sum_congr rfl fun e _ => h e, sum_weight _ _ _ _ hi, sum_weight _ _ _ _ hi,
    EReal.left_distrib_of_nonneg_of_ne_top h₁ t₁, EReal.left_distrib_of_nonneg_of_ne_top h₂ t₂]
  abel

end Cert.Proof.Experts

end
-- ==== Proof.KerRead.lean ====
/- The kernel's payloads, each read at an index. -/
module

public import proofs.«01_k».proof.Proof.Gen.KernelIdeal.Skeleton
public import Idealize.ShloMosaic.Lib.Pointwise

@[expose] public section

set_option maxRecDepth 16384

noncomputable section

namespace Cert.Proof.Ker

open Cert.KernelIdeal Cert.KernelIdeal.Gen Idealize.ShloMosaic Idealize.ShloMosaic.TcCoe Idealize.SL.Sem

/-- Row `256 t + r` of the fifteen stacked interior frames. -/
def stackRow (t : Fin 15) (r : Fin 256) : Fin 3840 := ⟨256 * t.val + r.val, by have := t.isLt; have := r.isLt; omega⟩

/-- The fifteen blocks stacked. -/
def stack (v : Fin 15 → FVec Ideal S256x256 .f32) : FVec Ideal S3840x256 .f32 :=
  k0_pay3 (v 0) (v 1) (v 2) (v 3) (v 4) (v 5) (v 6) (v 7) (v 8) (v 9) (v 10) (v 11) (v 12) (v 13) (v 14)

/-- Row `256 t + r` of the stack is row `r` of block `t`. -/
theorem stack_apply (v : Fin 15 → FVec Ideal S256x256 .f32) (t : Fin 15) (r n : Fin 256) :
    stack v (ix2 (stackRow t r) n) = v t (ix2 r n) := by
  have hr := r.isLt
  refine concatenate_ofFn_apply (t := S3840x256) (s₁ := S256x256) 0 v
    (by show Shape.Concatenates (List.replicate 15 S256x256) S3840x256 0; decide) rfl 256 rfl (ix2 (stackRow t r) n) t ?_ (ix2 r n) ?_ ?_
  · show (256 * t.val + r.val) / 256 = t.val
    omega
  · show r.val = (256 * t.val + r.val) % 256
    omega
  · intro b hb
    match b with
    | ⟨0, _⟩ => exact absurd rfl hb
    | ⟨1, _⟩ => rfl

/-- The magnitude at a frequency of a row `a`, against a cosine column `c` and a sine column `s`. -/
def magOf (a c s : Fin 256 → EReal) : EReal :=
  Ideal.sqrt ((∑ n, a n * c n) * (∑ n, a n * c n) + (∑ n, a n * s n) * (∑ n, a n * s n))

/-- The stacked frames' magnitudes. -/
theorem pay5_apply (v18 : FVec Ideal S3840x256 .f32) (v20 : FVec Ideal S256x129 .f32) (v22 : FVec Ideal S256x129 .f32) (q : Fin 3840) (f : Fin 129) :
   k0_pay5 v18 v20 (constant (F := Ideal) S3840x129 .f32 0x00000000#32) v22 (ix2 q f)
      = magOf (fun n => v18 (ix2 q n)) (fun n => v20 (ix2 n f)) (fun n => v22 (ix2 n f)) := by
  unfold magOf
  pointwise [k0_pay5]

/-- The first frame's magnitude, the last's, and the first five of the stack's. -/
theorem pay6_apply (v18 : FVec Ideal S3840x256 .f32) (v20 : FVec Ideal S256x129 .f32) (cst : FVec Ideal S3840x129 .f32) (v22 : FVec Ideal S256x129 .f32)
    (v29 : FVec Ideal S256x256 .f32) (v30 v33 : FVec Ideal S256x129 .f32) (v40 : FVec Ideal S256x256 .f32) (v41 v44 : FVec Ideal S256x129 .f32) (r : Fin 256) (f : Fin 129) :
    k0_pay6 v18 v20 cst v22 v29 v30 v33 v40 v41 v44 (ix2 r f) =
      magOf (fun n => v29 (ix2 r n)) (fun n => v30 (ix2 n f)) (fun n => v33 (ix2 n f))
      + magOf (fun n => v40 (ix2 r n)) (fun n => v41 (ix2 n f)) (fun n => v44 (ix2 n f))
      + k0_pay5 v18 v20 cst v22 (ix2 (stackRow 0 r) f) + k0_pay5 v18 v20 cst v22 (ix2 (stackRow 1 r) f)
      + k0_pay5 v18 v20 cst v22 (ix2 (stackRow 2 r) f) + k0_pay5 v18 v20 cst v22 (ix2 (stackRow 3 r) f)
      + k0_pay5 v18 v20 cst v22 (ix2 (stackRow 4 r) f) := by
  unfold magOf stackRow
  pointwise [k0_pay6]

/-- The logit, from the stack's magnitudes and the sum so far. -/
theorem pay7_apply (v28 : FVec Ideal S3840x129 .f32) (v61 : FVec Ideal S256x129 .f32) (v84 : FVec Ideal S129x256 .f32)
    (v86 : FVec Ideal S1x256 .f32) (v92 : FVec Ideal S256x16 .f32) (v94 : FVec Ideal S1x16 .f32)  (r : Fin 256) (e : Fin 16) :
    k0_pay7 v28 v61 v84 v86 v92 v94 (ix2 r e) =
      ∑ k, max (∑ f, (v61 (ix2 r f) + v28 (ix2 (stackRow 5 r) f) + v28 (ix2 (stackRow 6 r) f) + v28 (ix2 (stackRow 7 r) f)
          + v28 (ix2 (stackRow 8 r) f) + v28 (ix2 (stackRow 9 r) f) + v28 (ix2 (stackRow 10 r) f) + v28 (ix2 (stackRow 11 r) f)
          + v28 (ix2 (stackRow 12 r) f) + v28 (ix2 (stackRow 13 r) f) + v28 (ix2 (stackRow 14 r) f))
          * ((1 / 17 : ℝ) : EReal) * v84 (ix2 f k) + v86 (ix2 0 k)) 0 * v92 (ix2 k e) + v94 (ix2 0 e) := by
  unfold stackRow
  pointwise [k0_pay7]
  rfl

/-- The greatest logit of a row. -/
theorem pay8_apply (v28 : FVec Ideal S3840x129 .f32) (v61 : FVec Ideal S256x129 .f32) (v84 : FVec Ideal S129x256 .f32)
    (v86 : FVec Ideal S1x256 .f32) (v92 : FVec Ideal S256x16 .f32) (v94 : FVec Ideal S1x16 .f32)  (r : Fin 256) :
    k0_pay8 v28 v61 v84 v86 v92 v94 (ix2 r 0) =
      Finset.fold max (Ideal.ofBits .f32 4286578688#32) (fun x => k0_pay7 v28 v61 v84 v86 v92 v94 (ix2 r x)) Finset.univ := by
  pointwise [k0_pay8]

/-- The least number that satisfies a comparison `p`, of sixteen; `16` where none does. -/
def least (p : Fin 16 → Prop) [DecidablePred p] : BitVec 32 :=
  Finset.fold IntOp.minsi (2147483647#32) (fun x => if p x then BitVec.ofNat 32 x.val else 16#32) Finset.univ

/-- The first place of a row's greatest logit. -/
theorem pay9_apply (v28 : FVec Ideal S3840x129 .f32) (v61 : FVec Ideal S256x129 .f32) (v84 : FVec Ideal S129x256 .f32)
    (v86 : FVec Ideal S1x256 .f32) (v92 : FVec Ideal S256x16 .f32) (v94 : FVec Ideal S1x16 .f32)  (r : Fin 256) :
    k0_pay9 v28 v61 v84 v86 v92 v94 (ix2 r 0) =
      least (fun x => k0_pay7 v28 v61 v84 v86 v92 v94 (ix2 r x) = k0_pay8 v28 v61 v84 v86 v92 v94 (ix2 r 0)) := by
  unfold least
  pointwise [k0_pay9]

/-- The weights of a row, from its logits `L`, the greatest of them `m₁` and its place `i₁`. -/
def weights (L : Fin 16 → EReal) (m₁ : EReal) (i₁ : BitVec 32) (e : Fin 16) : EReal :=
  Scalar.select (IntOp.cmpi .eq (BitVec.ofNat 32 e.val) i₁)
    (Ideal.div 1 (1 + Ideal.exp ((Finset.fold max (Ideal.ofBits .f32 4286578688#32)
      (fun x => Scalar.select (IntOp.cmpi .eq (BitVec.ofNat 32 x.val) i₁) ⊥ (L x)) Finset.univ) - m₁))) 0
  + Scalar.select (IntOp.cmpi .eq (BitVec.ofNat 32 e.val)
      (least fun x => Scalar.select (IntOp.cmpi .eq (BitVec.ofNat 32 x.val) i₁) ⊥ (L x) = Finset.fold max (Ideal.ofBits .f32 4286578688#32)
        (fun x => Scalar.select (IntOp.cmpi .eq (BitVec.ofNat 32 x.val) i₁) ⊥ (L x)) Finset.univ))
    (Ideal.exp ((Finset.fold max (Ideal.ofBits .f32 4286578688#32)
        (fun x => Scalar.select (IntOp.cmpi .eq (BitVec.ofNat 32 x.val) i₁) ⊥ (L x)) Finset.univ) - m₁)
      * Ideal.div 1 (1 + Ideal.exp ((Finset.fold max (Ideal.ofBits .f32 4286578688#32)
        (fun x => Scalar.select (IntOp.cmpi .eq (BitVec.ofNat 32 x.val) i₁) ⊥ (L x)) Finset.univ) - m₁))) 0

/-- The block of weights. -/
theorem pay1_apply (v97 : FVec Ideal S256x16 .f32) (v100 : FVec Ideal S256x1 .f32) (v106 : IVec S256x1 32) (r : Fin 256) (e : Fin 16) :
    k0_pay1 v97 (iota .tc S256x16 32 [1] iota_S256x16_d1_w32) v100 v106 (ix2 r e)
      = weights (fun x => v97 (ix2 r x)) (v100 (ix2 r 0)) (v106 (ix2 r 0)) e := by
  unfold weights least
  pointwise [k0_pay1]
  rfl

/-- The block of the row, copied. -/
theorem pay2_apply (x : FVec Ideal S256x2048 .f32) (j : S256x2048.Idx) : k0_pay2 (F := Ideal) x j = x j := by
  pointwise [k0_pay2]

/-- What the accumulator starts from: the weighted biases. -/
theorem k1pay1_apply (v28 : FVec Ideal S1024x16 .f32) (v30 : FVec Ideal S16x64 .f32) (b : Fin 1024) (o : Fin 64) :
    k1_pay1 (F := Ideal) v28 v30 (ix2 b o) = ∑ e, v28 (ix2 b e) * v30 (ix2 e o) := by
  pointwise [k1_pay1]

/-- What a group of four experts adds. -/
theorem k1pay2_apply (v0 : FVec Ideal S1024x2048 .bf16) (v2 : FVec Ideal S2048x256 .bf16) (v5 : FVec Ideal S1x256 .f32)
    (v11 : FVec Ideal S1024x16 .f32) (v13 : FVec Ideal S1x16x256 .f32) (v18 : FVec Ideal S256x64 .bf16) (v24 : FVec Ideal S1024x64 .f32) (b : Fin 1024) (o : Fin 64) :
    k1_pay2 (F := Ideal) v0 v2 v5 v11 v13 v18 v24 (ix2 b o) =
      v24 (ix2 b o) + ∑ j, max (∑ l, v0 (ix2 b l) * v2 (ix2 l j) + v5 (ix2 0 j)) 0 * (∑ e, v11 (ix2 b e) * v13 (ix3 0 e j)) * v18 (ix2 j o) := by
  pointwise [k1_pay2]

end Cert.Proof.Ker

end
-- ==== Proof.Gate.lean ====
/- What the gating kernel computes of a block of rows, as a formula of a row. -/
module

public import proofs.«01_k».proof.Proof.Gen.KernelIdeal.Frame
public import proofs.«01_k».proof.Proof.KerRead

@[expose] public section

set_option maxRecDepth 16384

noncomputable section

namespace Cert.Proof.Ker

open Cert.KernelIdeal Cert.KernelIdeal.Gen Idealize.ShloMosaic Idealize.ShloMosaic.TcCoe Idealize.SL.Sem

/-- Sample `n` of the frame that starts at entry `128 s` of a row. -/
def at128 (X : Fin 2048 → EReal) (s : Fin 15) (n : Fin 256) : EReal :=
  X ⟨128 * s.val + n.val, by have := s.isLt; have := n.isLt; omega⟩

/-- The seventeen magnitudes of a row at one frequency, added and divided by seventeen: `C`, `S` the windowed
    cosine and sine columns, the other four the columns of the first frame and the last. -/
def meanK (X : Fin 2048 → EReal) (C S C₀ S₀ C₁ S₁ : Fin 256 → EReal) : EReal :=
  (magOf (at128 X 0) C₀ S₀ + magOf (at128 X 14) C₁ S₁
    + magOf (at128 X 0) C S + magOf (at128 X 1) C S + magOf (at128 X 2) C S + magOf (at128 X 3) C S + magOf (at128 X 4) C S
    + magOf (at128 X 5) C S + magOf (at128 X 6) C S + magOf (at128 X 7) C S + magOf (at128 X 8) C S + magOf (at128 X 9) C S
    + magOf (at128 X 10) C S + magOf (at128 X 11) C S + magOf (at128 X 12) C S + magOf (at128 X 13) C S + magOf (at128 X 14) C S)
    * ((1 / 17 : ℝ) : EReal)

/-- The logits of a row, from its mean magnitudes `P`. -/
def logits (P : Fin 129 → EReal) (g1 : Fin 129 → Fin 256 → EReal) (b1 : Fin 256 → EReal) (g2 : Fin 256 → Fin 16 → EReal)
    (b2 : Fin 16 → EReal) (e : Fin 16) : EReal :=
  ∑ k, max (∑ f, P f * g1 f k + b1 k) 0 * g2 k e + b2 e

/-- A row's weights, from its logits. -/
def rowWeights (L : Fin 16 → EReal) : Fin 16 → EReal :=
  weights L (Finset.fold max (Ideal.ofBits .f32 4286578688#32) L Finset.univ)
    (least fun x => L x = Finset.fold max (Ideal.ofBits .f32 4286578688#32) L Finset.univ)

variable (x0 : Vec Ideal S256x2048 .f32) (x1 x2 x3 x4 x5 x6 : Vec Ideal S256x129 .f32) (x7 : Vec Ideal S129x256 .f32)
  (x8 : Vec Ideal S1x256 .f32) (x9 : Vec Ideal S256x16 .f32) (x10 : Vec Ideal S1x16 .f32)

/-- The stack holds the fifteen interior frames. -/
theorem pay11_apply (s : Fin 15) (r n : Fin 256) :
    k0_pay11 (F := Ideal) x0 x1 x2 x3 x4 x5 x6 x7 x8 x9 x10 (ix2 (stackRow s r) n) = at128 (fun l => x0 (ix2 r l)) s n := by
  have h := stack_apply ![View.ld x0 r0_1, View.ld x0 r0_2, View.ld x0 r0_3, View.ld x0 r0_4, View.ld x0 r0_5, View.ld x0 r0_6,
    View.ld x0 r0_7, View.ld x0 r0_8, View.ld x0 r0_9, View.ld x0 r0_10, View.ld x0 r0_11, View.ld x0 r0_12, View.ld x0 r0_13,
    View.ld x0 r0_14, View.ld x0 r0_15] s r n
  refine Eq.trans ?_ (h.trans ?_)
  · rfl
  · fin_cases s <;> unfold at128 <;> (try simp only []) <;> pointwise [] <;> (first | done | rfl)

/-- The magnitudes of the interior frames. -/
theorem pay13_apply (s : Fin 15) (r : Fin 256) (f : Fin 129) :
    k0_pay13 (F := Ideal) x0 x1 x2 x3 x4 x5 x6 x7 x8 x9 x10 (ix2 (stackRow s r) f)
      = magOf (at128 (fun l => x0 (ix2 r l)) s) (fun n => x1 (ix2 n f)) (fun n => x2 (ix2 n f)) := by
  unfold k0_pay13
  refine (pay5_apply _ _ _ _ _).trans ?_
  simp only [pay11_apply]
  unfold k0_pay12 k0_pay4
  congr 1 <;> funext n <;> pointwise []

/-- The sum so far: the first frame, the last, and the first five interior ones. -/
theorem pay14_apply (r : Fin 256) (f : Fin 129) :
    k0_pay14 (F := Ideal) x0 x1 x2 x3 x4 x5 x6 x7 x8 x9 x10 (ix2 r f)
      = magOf (at128 (fun l => x0 (ix2 r l)) 0) (fun n => x3 (ix2 n f)) (fun n => x4 (ix2 n f))
      + magOf (at128 (fun l => x0 (ix2 r l)) 14) (fun n => x5 (ix2 n f)) (fun n => x6 (ix2 n f))
      + magOf (at128 (fun l => x0 (ix2 r l)) 0) (fun n => x1 (ix2 n f)) (fun n => x2 (ix2 n f))
      + magOf (at128 (fun l => x0 (ix2 r l)) 1) (fun n => x1 (ix2 n f)) (fun n => x2 (ix2 n f))
      + magOf (at128 (fun l => x0 (ix2 r l)) 2) (fun n => x1 (ix2 n f)) (fun n => x2 (ix2 n f))
      + magOf (at128 (fun l => x0 (ix2 r l)) 3) (fun n => x1 (ix2 n f)) (fun n => x2 (ix2 n f))
      + magOf (at128 (fun l => x0 (ix2 r l)) 4) (fun n => x1 (ix2 n f)) (fun n => x2 (ix2 n f)) := by
  unfold k0_pay14
  refine (pay6_apply _ _ _ _ _ _ _ _ _ _ _ _).trans ?_
  have h := fun s => pay13_apply x0 x1 x2 x3 x4 x5 x6 x7 x8 x9 x10 s r f
  unfold k0_pay13 at h
  rw [h, h, h, h, h]
  have a : (fun n => View.ld x0 r0_1 (ix2 r n)) = at128 (fun l => x0 (ix2 r l)) 0 := by
    funext n; unfold at128; pointwise []
  have b : (fun n => View.ld x0 r0_15 (ix2 r n)) = at128 (fun l => x0 (ix2 r l)) 14 := by
    funext n; unfold at128; pointwise []
  have w : ∀ v : Vec Ideal S256x129 .f32, (fun n => View.ld v r0_16 (ix2 n f)) = fun n => v (ix2 n f) := by
    intro v; funext n; pointwise []
  have e : ∀ X C C' S S', C = C' → S = S' → magOf X C S = magOf X C' S' := by
    intro X C C' S S' h h'; rw [h, h']
  simp only [w]
  rw [a, b]

/-- The block of logits. -/
theorem logits_apply (r : Fin 256) (e : Fin 16) :
    k0_pay7 (k0_pay13 (F := Ideal) x0 x1 x2 x3 x4 x5 x6 x7 x8 x9 x10) (k0_pay14 x0 x1 x2 x3 x4 x5 x6 x7 x8 x9 x10)
      (View.ld x7 r0_17) (View.ld x8 r0_18) (View.ld x9 r0_19) (View.ld x10 r0_20) (ix2 r e)
    = logits (fun f => meanK (fun l => x0 (ix2 r l)) (fun n => x1 (ix2 n f)) (fun n => x2 (ix2 n f)) (fun n => x3 (ix2 n f))
        (fun n => x4 (ix2 n f)) (fun n => x5 (ix2 n f)) (fun n => x6 (ix2 n f)))
        (fun f k => x7 (ix2 f k)) (fun k => x8 (ix2 0 k)) (fun k e => x9 (ix2 k e)) (fun e => x10 (ix2 0 e)) e := by
  refine (pay7_apply _ _ _ _ _ _ _ _).trans ?_
  simp only [pay13_apply, pay14_apply]
  unfold logits meanK
  pointwise []

/-- The block of weights, row by row. -/
theorem out11_apply (r : Fin 256) (e : Fin 16) :
    out0_11 (F := Ideal) x0 x1 x2 x3 x4 x5 x6 x7 x8 x9 x10 (ix2 r e)
    = rowWeights (logits (fun f => meanK (fun l => x0 (ix2 r l)) (fun n => x1 (ix2 n f)) (fun n => x2 (ix2 n f)) (fun n => x3 (ix2 n f))
        (fun n => x4 (ix2 n f)) (fun n => x5 (ix2 n f)) (fun n => x6 (ix2 n f)))
        (fun f k => x7 (ix2 f k)) (fun k => x8 (ix2 0 k)) (fun k e => x9 (ix2 k e)) (fun e => x10 (ix2 0 e))) e := by
  unfold out0_11
  have hz : (![0, 0] : Fin 2 → Nat) = fun _ => 0 := funext fun a => by fin_cases a <;> rfl
  rw [View.canon_unit_zero hz]
  refine (pay1_apply _ _ _ _ _).trans ?_
  unfold rowWeights
  rw [pay8_apply, pay9_apply, pay8_apply]
  simp only [logits_apply]

/-- The copied rows. -/
theorem out12_apply (j : S256x2048.Idx) :
    out0_12 (F := Ideal) x0 x1 x2 x3 x4 x5 x6 x7 x8 x9 x10 j = x0 j := by
  unfold out0_12
  have hz : (![0, 0] : Fin 2 → Nat) = fun _ => 0 := funext fun a => by fin_cases a <;> rfl
  rw [View.canon_unit_zero hz]
  refine (pay2_apply _ _).trans ?_
  rw [View.ld_unit_zero (S := S256x2048) hz]

end Cert.Proof.Ker

end
-- ==== Proof.Weights.lean ====
/- The two greatest logits of a row and the two weights they get: as the kernel finds them and as the reference does. -/
module

public import proofs.«01_k».proof.Proof.TopTwo
public import proofs.«01_k».proof.Proof.Experts
public import proofs.«01_k».proof.Proof.RefRead
public import proofs.«01_k».proof.Proof.Gate

@[expose] public section

set_option maxRecDepth 16384

noncomputable section

namespace Cert.Proof.Weights

open Finset Idealize.ShloMosaic TopTwo Ker

/-- The pattern of the least extended real. -/
theorem ofBits_bot : Ideal.ofBits .f32 4286578688#32 = ⊥ := by simp [Ideal.ofBits, Ideal.ieee]

/-- The fold of maxima is a value that none exceeds. -/
theorem fold_max {n : ℕ} (L : Fin n → EReal) (a : Fin n) (h : ∀ e, L e ≤ L a) :
    Finset.fold max (Ideal.ofBits .f32 4286578688#32) L univ = L a := by
  rw [ofBits_bot]
  refine le_antisymm ((fold_max_le _).2 ⟨bot_le, fun e _ => h e⟩) ((le_fold_max _).2 (Or.inr ⟨a, mem_univ a, le_refl _⟩))

/-- The fold of signed minima is at most each member, and is the initial value or a member. -/
theorem fold_minsi {ι : Type} [DecidableEq ι] (f : ι → BitVec 32) (b : BitVec 32) (s : Finset ι) :
    (∀ x ∈ s, (Finset.fold IntOp.minsi b f s).toInt ≤ (f x).toInt) ∧ (Finset.fold IntOp.minsi b f s = b ∨ ∃ x ∈ s, Finset.fold IntOp.minsi b f s = f x) := by
  induction s using Finset.induction_on with
  | empty => simp
  | insert a s ha ih =>
    rw [fold_insert ha]
    have hm : ∀ u v : BitVec 32, (u.toInt < v.toInt ∧ IntOp.minsi u v = u) ∨ (v.toInt ≤ u.toInt ∧ IntOp.minsi u v = v) := by
      intro u v
      unfold IntOp.minsi
      by_cases h : u.slt v = true
      · left; rw [if_pos h]; exact ⟨by simpa [BitVec.slt] using h, rfl⟩
      · right; rw [if_neg h]; exact ⟨by simpa [BitVec.slt] using h, rfl⟩
    rcases hm (f a) (Finset.fold IntOp.minsi b f s) with ⟨h, e⟩ | ⟨h, e⟩
    · rw [e]
      refine ⟨fun x hx => ?_, Or.inr ⟨a, mem_insert_self _ _, rfl⟩⟩
      rcases mem_insert.1 hx with rfl | hx
      · exact le_refl _
      · exact le_trans h.le (ih.1 x hx)
    · rw [e]
      refine ⟨fun x hx => ?_, ?_⟩
      · rcases mem_insert.1 hx with rfl | hx
        · exact h
        · exact ih.1 x hx
      · rcases ih.2 with h2 | ⟨x, hx, h2⟩
        · exact Or.inl h2
        · exact Or.inr ⟨x, mem_insert_of_mem hx, h2⟩

/-- The least place that satisfies `p`. -/
theorem least_eq (p : Fin 16 → Prop) [DecidablePred p] (a : Fin 16) (ha : p a) (h : ∀ e, p e → a ≤ e) :
    least p = BitVec.ofNat 32 a.val := by
  have hn : ∀ x : Fin 16, (BitVec.ofNat 32 x.val).toInt = x.val := by decide
  have hf := fold_minsi (fun x => if p x then BitVec.ofNat 32 x.val else 16#32) 2147483647#32 univ
  have h1 := hf.1 a (mem_univ a)
  have hl := a.isLt
  unfold least
  rw [if_pos ha, hn] at h1
  rcases hf.2 with h2 | ⟨x, _, h2⟩
  · rw [h2] at h1
    have : (2147483647#32 : BitVec 32).toInt = 2147483647 := by decide
    omega
  · rw [h2] at h1 ⊢
    by_cases hx : p x
    · rw [if_pos hx] at h1 ⊢
      rw [hn] at h1
      have h3 : a.val ≤ x.val := h x hx
      have : x = a := Fin.ext (by omega)
      rw [this]
    · rw [if_neg hx] at h1
      have : (16#32 : BitVec 32).toInt = 16 := by decide
      omega

/-- A choice by whether two places are one. -/
theorem select_place {α : Type} (e a : Fin 16) (u v : α) :
    Scalar.select (IntOp.cmpi .eq (BitVec.ofNat 32 e.val) (BitVec.ofNat 32 a.val)) u v = if e = a then u else v := by
  have h : ∀ e a : Fin 16, IntOp.cmpi .eq (BitVec.ofNat 32 e.val) (BitVec.ofNat 32 a.val) = BitVec.ofBool (decide (e = a)) := by decide
  rw [h]
  unfold Scalar.select
  by_cases hh : e = a
  · simp [hh]
  · simp [hh]

/-- The first place's value is not exceeded. -/
theorem First.le {n : ℕ} {L : Fin n → EReal} {a : Fin n} (h : First L a) (e : Fin n) : L e ≤ L a := by
  by_cases he : e = a
  · rw [he]
  · rcases h e he with h1 | ⟨h1, _⟩
    · exact h1.le
    · exact h1.ge

/-- The first weight, of two values. -/
def w₁ (u v : EReal) : EReal := Ideal.div 1 (1 + Ideal.exp (v - u))

/-- The second weight. -/
def w₂ (u v : EReal) : EReal := Ideal.exp (v - u) * Ideal.div 1 (1 + Ideal.exp (v - u))

/-- The kernel's weights of a row are two: of the first place, and of the second. -/
theorem rowWeights_eq (L : Fin 16 → EReal) (a b : Fin 16) (ha : First L a) (hb : Second L a b) (hr : L b ≠ ⊥) (e : Fin 16) :
    rowWeights L e = Experts.weight a b (w₁ (L a) (L b)) (w₂ (L a) (L b)) e := by
  have h1 := fold_max L a (First.le ha)
  have h2 : (least fun x => L x = Finset.fold max (Ideal.ofBits .f32 4286578688#32) L Finset.univ) = BitVec.ofNat 32 a.val := by
    refine least_eq _ a h1.symm fun e he => ?_
    rw [h1] at he
    by_cases hea : e = a
    · rw [hea]
    · rcases ha e hea with h | ⟨_, h⟩
      · rw [he] at h; exact absurd h (lt_irrefl _)
      · exact h.le
  unfold rowWeights
  rw [h2, h1]
  unfold weights
  simp only [select_place]
  have hM : ∀ e, (if e = a then (⊥ : EReal) else L e) ≤ if b = a then ⊥ else L b := by
    intro e
    rw [if_neg hb.1]
    by_cases hea : e = a
    · rw [if_pos hea]; exact bot_le
    · rw [if_neg hea]
      by_cases heb : e = b
      · rw [heb]
      · rcases hb.2 e hea heb with h | ⟨h, _⟩
        · exact h.le
        · exact h.ge
  have h3 := fold_max (fun e => if e = a then (⊥ : EReal) else L e) b hM
  have h4 : (least fun x => (if x = a then (⊥ : EReal) else L x) = Finset.fold max (Ideal.ofBits .f32 4286578688#32) (fun e => if e = a then (⊥ : EReal) else L e) Finset.univ) = BitVec.ofNat 32 b.val := by
    refine least_eq _ b h3.symm fun e he => ?_
    rw [h3] at he
    simp only [if_neg hb.1] at he
    by_cases hea : e = a
    · rw [if_pos hea] at he; exact absurd he.symm hr
    · rw [if_neg hea] at he
      by_cases heb : e = b
      · rw [heb]
      · rcases hb.2 e hea heb with h | ⟨_, h⟩
        · rw [he] at h; exact absurd h (lt_irrefl _)
        · exact h.le
  rw [h4, h3]
  simp only [if_neg hb.1, select_place]
  rfl

/-- One more than an exponential is a positive real number. -/
theorem one_add_exp (u v : ℝ) : ∃ t : ℝ, 0 < t ∧ Ideal.exp ((v : EReal) - (u : EReal)) = ((t : ℝ) : EReal) ∧ 1 + Ideal.exp ((v : EReal) - (u : EReal)) = ((1 + t : ℝ) : EReal) := by
  refine ⟨Real.exp (v - u), Real.exp_pos _, ?_, ?_⟩
  · rw [← EReal.coe_sub]; rfl
  · rw [← EReal.coe_sub]
    show 1 + ((Real.exp (v - u) : ℝ) : EReal) = _
    rw [EReal.coe_add, EReal.coe_one]

/-- The quotient of two real numbers, the divisor not zero. -/
theorem div_coe (x y : ℝ) (h : y ≠ 0) : Ideal.div (x : EReal) (y : EReal) = ((x / y : ℝ) : EReal) := by
  unfold Ideal.div
  rw [if_neg (by simpa using h), div_eq_mul_inv, EReal.coe_mul, EReal.coe_inv]

/-- Both weights are real numbers, none negative. -/
theorem w₁_real (u v : ℝ) : ∃ r : ℝ, 0 ≤ r ∧ w₁ (u : EReal) (v : EReal) = (r : EReal) := by
  obtain ⟨t, ht, _, h2⟩ := one_add_exp u v
  refine ⟨1 / (1 + t), by positivity, ?_⟩
  unfold w₁
  rw [h2, ← EReal.coe_one, div_coe _ _ (by positivity)]

/-- Both weights are real numbers, none negative. -/
theorem w₂_real (u v : ℝ) : ∃ r : ℝ, 0 ≤ r ∧ w₂ (u : EReal) (v : EReal) = (r : EReal) := by
  obtain ⟨t, ht, h1, h2⟩ := one_add_exp u v
  refine ⟨t * (1 / (1 + t)), by positivity, ?_⟩
  unfold w₂
  rw [h2, h1, ← EReal.coe_one, div_coe _ _ (by positivity), ← EReal.coe_mul]

open Cert.ReferenceIdeal Cert.ReferenceIdeal.Gen in
/-- The reference's softmax of two real values, the greater first, has the kernel's two weights. -/
theorem soft_eq (v : FVec Ideal S1024x2 .f32) (b : Fin 1024) (x y : ℝ) (hx : v (ix2 b 0) = (x : EReal)) (hy : v (ix2 b 1) = (y : EReal)) (h : y ≤ x) :
    Ref.soft v (ix2 b 0) = w₁ (x : EReal) (y : EReal) ∧ Ref.soft v (ix2 b 1) = w₂ (x : EReal) (y : EReal) := by
  have hm : Finset.fold max (Ideal.ofBits .f32 4286578688#32) (fun k => v (ix2 b k)) univ = (x : EReal) := by
    rw [← hx]
    refine fold_max (fun k => v (ix2 b k)) 0 fun e => ?_
    match e with
    | ⟨0, _⟩ => exact le_refl _
    | ⟨1, _⟩ =>
      show v (ix2 b 1) ≤ v (ix2 b 0)
      rw [hx, hy]
      exact EReal.coe_le_coe_iff.2 h
  have h0 : Ideal.exp ((x : EReal) - (x : EReal)) = 1 := by
    rw [← EReal.coe_sub, sub_self]
    show ((Real.exp 0 : ℝ) : EReal) = 1
    rw [Real.exp_zero, EReal.coe_one]
  have hb : max (Ideal.ofBits .f32 4286578688#32) (x : EReal) = (x : EReal) := by
    rw [ofBits_bot]; exact max_eq_right bot_le
  obtain ⟨t, ht, h1, h2⟩ := one_add_exp x y
  constructor
  · rw [Ref.soft_apply, hm, hb, Fin.sum_univ_two, hx, hy, h0]
    rfl
  · rw [Ref.soft_apply, hm, hb, Fin.sum_univ_two, hx, hy, h0]
    unfold w₂
    rw [h2, h1, ← EReal.coe_one, div_coe _ _ (by positivity), div_coe _ _ (by positivity), ← EReal.coe_mul, mul_one_div]

open Cert.ReferenceIdeal Cert.ReferenceIdeal.Gen in
/-- An index of the logits, moved along its row. -/
theorem along_ix2 (b : Fin 1024) (q e : Fin 16) : (ix2 b q : S1024x16.Idx).along 1 e = ix2 b e := by
  funext a
  match a with
  | ⟨0, _⟩ => rfl
  | ⟨1, _⟩ => rfl

open Cert.ReferenceIdeal Cert.ReferenceIdeal.Gen in
/-- The reference's sort of a row of logits has the sort's places. -/
theorem sort_place (L : FVec Ideal S1024x16 .f32) (b : Fin 1024) (q : Fin 16) :
    sortedFrom (fun k k' => FloatOps.cmpfTotal (F := Ideal) (φ := .f32) CmpDirection.gt (L ((ix2 b q : S1024x16.Idx).along 1 k)) (L ((ix2 b q : S1024x16.Idx).along 1 k')) == 1#1) q
      = sorted (fun e => L (ix2 b e)) q := by
  unfold sorted
  congr 1
  funext k k'
  have e1 : (ix2 b q : S1024x16.Idx).along 1 k = ix2 b k := along_ix2 b q k
  have e2 : (ix2 b q : S1024x16.Idx).along 1 k' = ix2 b k' := along_ix2 b q k'
  rw [e1, e2]
  show (BitVec.ofBool (decide (L (ix2 b k') < L (ix2 b k))) == 1#1) = _
  by_cases h : L (ix2 b k') < L (ix2 b k)
  · simp [h]
  · simp [h]

open Cert.ReferenceIdeal Cert.ReferenceIdeal.Gen in
/-- The reference's `k`-th value of a row is the logit at the sort's place `k`. -/
theorem topv_apply (L : FVec Ideal S1024x16 .f32) (b : Fin 1024) (k : Fin 2) :
    Ref.topv L (ix2 b k) = L (ix2 b (sorted (fun e => L (ix2 b e)) ⟨k.val, by omega⟩)) := by
  unfold Ref.topv Host.topK Host.sort2
  dsimp only
  rw [dif_pos (by decide)]
  pointwise []
  exact (congrArg L (along_ix2 b ⟨k.val, by omega⟩ _)).trans (congrArg (fun e => L (ix2 b e)) (sort_place L b ⟨k.val, by omega⟩))

open Cert.ReferenceIdeal Cert.ReferenceIdeal.Gen in
/-- The reference's `k`-th position of a row is the sort's place `k`. -/
theorem topi_apply (L : FVec Ideal S1024x16 .f32) (b : Fin 1024) (k : Fin 2) :
    Ref.topi L (ix2 b k) = BitVec.ofNat 32 (sorted (fun e => L (ix2 b e)) ⟨k.val, by omega⟩).val := by
  unfold Ref.topi Host.topK Host.sort2
  dsimp only
  rw [dif_pos (by decide)]
  pointwise []
  refine congrArg (BitVec.ofNat 32) ?_
  have key : ∀ e : Fin 16, ((ix2 b ⟨k.val, by omega⟩ : S1024x16.Idx).along 1 e 1).val = e.val := fun e =>
    congrArg (fun j : S1024x16.Idx => (j 1).val) (along_ix2 b ⟨k.val, by omega⟩ e)
  refine (key _).trans ?_
  exact congrArg (fun e : Fin 16 => e.val) (sort_place L b ⟨k.val, by omega⟩)

/-- The sort's first place comes before every other. -/
theorem sorted_first (L : Fin 16 → EReal) : First L (sorted L 0) := by
  intro e he
  obtain ⟨k, rfl⟩ := sorted_surjective L e
  refine sorted_before L 0 k (Fin.pos_of_ne_zero fun h => he (by rw [h]))

/-- The sort's second place comes before every other but the first. -/
theorem sorted_second (L : Fin 16 → EReal) : Second L (sorted L 0) (sorted L 1) := by
  refine ⟨fun h => ?_, fun e h0 h1 => ?_⟩
  · have := sorted_injective L h
    exact absurd this (by decide)
  · obtain ⟨k, rfl⟩ := sorted_surjective L e
    refine sorted_before L 1 k ?_
    have h2 : k ≠ 0 := fun h => h0 (by rw [h])
    have h3 : k ≠ 1 := fun h => h1 (by rw [h])
    have h4 : k.val ≠ 0 := fun h => h2 (Fin.ext h)
    have h5 : k.val ≠ 1 := fun h => h3 (Fin.ext h)
    show 1 < k.val
    omega

end Cert.Proof.Weights

end
-- ==== Proof.Dft.lean ====
/- Sums over the samples of a mirrored frame, folded into sums over the samples of the frame beside it. -/
module

public import Idealize.ShloMosaic.Lib.Pointwise

@[expose] public section

noncomputable section

namespace Cert.Proof.Dft

open Finset

/-- The first frame: samples `128 … 1` mirrored, then `0 … 127`. -/
theorem fold_front (X W : ℕ → ℝ) :
    ∑ j ∈ range 256, X j * ((if j < 128 then W (128 + j) else 0) + (if 1 ≤ j ∧ j < 129 then W (128 - j) else 0))
      = ∑ n ∈ range 256, (if n < 128 then X (128 - n) else X (n - 128)) * W n := by
  simp only [mul_add, sum_add_distrib]
  have h1 : ∑ j ∈ range 256, X j * (if j < 128 then W (128 + j) else 0) = ∑ j ∈ range 128, X j * W (128 + j) := by
    rw [show (256 : ℕ) = 128 + 128 from rfl, sum_range_add]
    rw [sum_congr (s₁ := range 128) rfl (g := fun j => X j * W (128 + j)) (fun j hj => by rw [if_pos (mem_range.1 hj)])]
    rw [add_eq_left]
    exact sum_eq_zero fun j hj => by rw [if_neg (by omega), mul_zero]
  have h2 : ∑ j ∈ range 256, X j * (if 1 ≤ j ∧ j < 129 then W (128 - j) else 0) = ∑ n ∈ range 128, X (128 - n) * W n := by
    rw [show (256 : ℕ) = 129 + 127 from rfl, sum_range_add, sum_range_succ' _ 128]
    rw [sum_congr rfl (g := fun j => (0 : ℝ)) (fun j hj => by rw [if_neg (by omega), mul_zero]) (s₁ := range 127)]
    rw [← sum_range_reflect (fun n => X (128 - n) * W n) 128]
    rw [if_neg (by omega)]
    simp only [mul_zero, sum_const_zero, add_zero]
    refine sum_congr rfl fun j hj => ?_
    have hj := mem_range.1 hj
    rw [if_pos (by omega), show 128 - (128 - 1 - j) = j + 1 by omega, show 128 - (j + 1) = 128 - 1 - j by omega]
  have h3 : ∑ n ∈ range 256, (if n < 128 then X (128 - n) else X (n - 128)) * W n
      = ∑ n ∈ range 128, X (128 - n) * W n + ∑ j ∈ range 128, X j * W (128 + j) := by
    rw [show (256 : ℕ) = 128 + 128 from rfl, sum_range_add]
    congr 1
  rw [h1, h2, h3, add_comm]

/-- The last frame: samples `128 … 255`, then `254 … 127` mirrored. -/
theorem fold_back (X W : ℕ → ℝ) :
    ∑ j ∈ range 256, X j * ((if 128 ≤ j then W (j - 128) else 0) + (if 127 ≤ j ∧ j < 255 then W (382 - j) else 0))
      = ∑ n ∈ range 256, (if n < 128 then X (128 + n) else X (382 - n)) * W n := by
  simp only [mul_add, sum_add_distrib]
  have h1 : ∑ j ∈ range 256, X j * (if 128 ≤ j then W (j - 128) else 0) = ∑ j ∈ range 128, X (128 + j) * W j := by
    rw [show (256 : ℕ) = 128 + 128 from rfl, sum_range_add]
    rw [sum_congr rfl (g := fun j => (0 : ℝ)) (fun j hj => by rw [if_neg (by have := mem_range.1 hj; omega), mul_zero]) (s₁ := range 128)]
    rw [sum_const_zero, zero_add]
    exact sum_congr rfl fun j hj => by rw [if_pos (by omega), show 128 + j - 128 = j by omega]
  have h2 : ∑ j ∈ range 256, X j * (if 127 ≤ j ∧ j < 255 then W (382 - j) else 0)
      = ∑ n ∈ range 128, X (382 - (128 + n)) * W (128 + n) := by
    rw [show (256 : ℕ) = 127 + 129 from rfl, sum_range_add, sum_range_succ _ 128]
    rw [sum_congr rfl (g := fun j => (0 : ℝ)) (fun j hj => by rw [if_neg (by have := mem_range.1 hj; omega), mul_zero]) (s₁ := range 127)]
    rw [← sum_range_reflect (fun n => X (382 - (128 + n)) * W (128 + n)) 128]
    rw [if_neg (by omega)]
    simp only [mul_zero, sum_const_zero, add_zero, zero_add]
    refine sum_congr rfl fun j hj => ?_
    have hj := mem_range.1 hj
    rw [if_pos (by omega), show 382 - (128 + (128 - 1 - j)) = 127 + j by omega, show 382 - (127 + j) = 128 + (128 - 1 - j) by omega]
  have h3 : ∑ n ∈ range 256, (if n < 128 then X (128 + n) else X (382 - n)) * W n
      = ∑ j ∈ range 128, X (128 + j) * W j + ∑ n ∈ range 128, X (382 - (128 + n)) * W (128 + n) := by
    rw [show (256 : ℕ) = 128 + 128 from rfl, sum_range_add]
    congr 1
  rw [h1, h2, h3]

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.Proof.Dft

end
-- ==== Proof.Reals.lean ====
/- Real numbers among the ideal values: the operations under which they are closed, and the gate's stages. -/
module

public import proofs.«01_k».proof.Proof.Finite
public import proofs.«01_k».proof.Proof.RefRead
public import proofs.«01_k».proof.Proof.Weights
public import proofs.«01_k».proof.Proof.Dft

@[expose] public section

set_option maxRecDepth 16384

noncomputable section

namespace Cert.Proof.Finite

open Cert.ReferenceIdeal Idealize.ShloMosaic

/-- A real, taken as an extended real, is real. -/
theorem IsReal.coe (r : ℝ) : IsReal (r : EReal) := ⟨r, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem IsReal.max {x y : EReal} (hx : IsReal x) (hy : IsReal y) : IsReal (max x y) := by
  rcases max_choice x y with h | h <;> rw [h] <;> assumption

/-- A finite sum of reals is real. -/
theorem IsReal.sum {ι : Type} (s : Finset ι) (f : ι → EReal) (h : ∀ i, IsReal (f i)) : IsReal (∑ i ∈ s, f i) := by
  choose g hg using h
  exact ⟨∑ i ∈ s, g i, by rw [Dft.coe_sum]; exact Finset.sum_congr rfl fun i _ => hg i⟩

/-- The cosine of a real is real. -/
theorem IsReal.cos {x : EReal} (hx : IsReal x) : IsReal (Ideal.cos x) := by
  obtain ⟨a, rfl⟩ := hx
  exact ⟨_, rfl⟩

/-- The sine of a real is real. -/
theorem IsReal.sin {x : EReal} (hx : IsReal x) : IsReal (Ideal.sin x) := by
  obtain ⟨a, rfl⟩ := hx
  exact ⟨_, rfl⟩

/-- A quotient by a real other than zero is real. -/
theorem IsReal.div {x : EReal} (hx : IsReal x) {y : ℝ} (hy : y ≠ 0) : IsReal (Ideal.div x y) := by
  obtain ⟨a, rfl⟩ := hx
  exact ⟨_, Weights.div_coe a y hy⟩

/-- The root of two squares' sum is real. -/
theorem IsReal.sqrt {x y : EReal} (hx : IsReal x) (hy : IsReal y) : IsReal (Ideal.sqrt (x * x + y * y)) := by
  obtain ⟨a, rfl⟩ := hx
  obtain ⟨b, rfl⟩ := hy
  rw [← EReal.coe_mul, ← EReal.coe_mul, ← EReal.coe_add]
  refine ⟨Real.sqrt (a * a + b * b), ?_⟩
  show (if a * a + b * b < 0 then ⊥ else (Real.sqrt (a * a + b * b) : EReal)) = _
  rw [if_neg (by nlinarith [mul_self_nonneg a, mul_self_nonneg b])]

/-- The word of one half reads as one half. -/
theorem half_eq : Ideal.ofBits .f32 1056964608#32 = ((1 / 2 : ℝ) : EReal) := by
  simp [Ideal.ofBits, Ideal.ieee, -EReal.coe_mul]; norm_num

/-- The word nearest 2π reads as 13176795 / 2097152. -/
theorem twoPi_eq : Ideal.ofBits .f32 1086918619#32 = ((13176795 / 2097152 : ℝ) : EReal) := by
  simp [Ideal.ofBits, Ideal.ieee, -EReal.coe_mul]; norm_num

/-- The word of 256 reads as 256. -/
theorem n256_eq : Ideal.ofBits .f32 1132462080#32 = ((256 : ℝ) : EReal) := by
  simp [Ideal.ofBits, Ideal.ieee, -EReal.coe_mul]; norm_num

/-- The word of 17 reads as 17. -/
theorem n17_eq : Ideal.ofBits .f32 1099431936#32 = ((17 : ℝ) : EReal) := by
  simp [Ideal.ofBits, Ideal.ieee, -EReal.coe_mul]; norm_num

/-- A word read as an integer is real. -/
theorem IsReal.word (b : BitVec 32) : IsReal (FloatOps.sitofp (F := Ideal) .f32 b) := ⟨(b.toInt : ℝ), rfl⟩

/-- The window is real. -/
theorem win_real (n : Fin 256) : IsReal (Ref.win (ix1 n)) := by
  rw [Ref.win_apply, half_eq, twoPi_eq, n256_eq]
  exact (IsReal.coe _).mul (IsReal.sub ⟨1, rfl⟩ (IsReal.cos (IsReal.div ((IsReal.coe _).mul (IsReal.word _)) (by norm_num))))

/-- The angles are real. -/
theorem ang_real (n : Fin 256) (f : Fin 129) : IsReal (Ref.ang (ix2 n f)) := by
  rw [Ref.ang_apply, twoPi_eq, n256_eq]
  exact IsReal.div ((IsReal.coe _).mul ((IsReal.word _).mul (IsReal.word _))) (by norm_num)

variable (x : FVec Ideal S1024x2048 .f32) (hx : ∀ i, IsReal (x i))
include hx

/-- The frames of a real row are real. -/
theorem frames_real (b : Fin 1024) (t : Fin 17) (n : Fin 256) : IsReal (Ref.frames x (ix3 b t n)) := by
  rw [Ref.frames_apply]
  exact (hx _).mul (win_real n)

/-- So are the magnitudes, -/
theorem mag_real (b : Fin 1024) (t : Fin 17) (f : Fin 129) : IsReal (Ref.mag x (ix3 b t f)) := by
  rw [Ref.mag_apply]
  have h : ∀ y : EReal, -y * -y = y * y := fun y => by rw [neg_mul_neg]
  rw [h]
  exact IsReal.sqrt (IsReal.sum _ _ fun n => (frames_real x hx b t n).mul (ang_real n f).cos)
    (IsReal.sum _ _ fun n => (frames_real x hx b t n).mul (ang_real n f).sin)

/-- their means, -/
theorem pooled_real (b : Fin 1024) (f : Fin 129) : IsReal (Ref.pooled x (ix2 b f)) := by
  rw [Ref.pooled_apply, n17_eq]
  exact IsReal.div (IsReal.sum _ _ fun t => mag_real x hx b t f) (by norm_num)

/-- and the logits of a real gate. -/
theorem gate_real (g1 : FVec Ideal S129x256 .f32) (b1 : FVec Ideal S256 .f32) (g2 : FVec Ideal S256x16 .f32) (b2 : FVec Ideal S16 .f32)
    (hg1 : ∀ i, IsReal (g1 i)) (hb1 : ∀ i, IsReal (b1 i)) (hg2 : ∀ i, IsReal (g2 i)) (hb2 : ∀ i, IsReal (b2 i)) (b : Fin 1024) (e : Fin 16) :
    IsReal (Ref.gate (Ref.pooled x) g1 b1 g2 b2 (ix2 b e)) := by
  rw [Ref.gate_apply]
  exact (IsReal.sum _ _ fun k => (IsReal.max ((IsReal.sum _ _ fun f => (pooled_real x hx b f).mul (hg1 _)).add (hb1 _)) ⟨0, rfl⟩).mul (hg2 _)).add (hb2 _)

end Cert.Proof.Finite

end
-- ==== Proof.Host.lean ====
/- The arrays the host prepares for the two kernels, read at an index. -/
module

public import proofs.«01_k».proof.Proof.Gen.KernelIdeal.Frame
public import proofs.«01_k».proof.Proof.RefRead
public import Idealize.ShloMosaic.Lib.Pointwise
public import Idealize.ShloMosaic.Lib.StableHlo.Run
public import Idealize.ShloMosaic.Lib.Tactic

@[expose] public section

set_option maxRecDepth 16384

noncomputable section

namespace Cert.Proof.Ker

open Cert.KernelIdeal Cert.KernelIdeal.Gen Idealize.ShloMosaic Idealize.ShloMosaic.TcCoe Idealize.SL.Sem

/-- The sample numbers. -/
abbrev nums256 : FVec Ideal S256 .f32 := sitofp .f32 (iotaInDim S256 32 0)

/-- The frequency numbers. -/
abbrev nums129 : FVec Ideal S129 .f32 := sitofp .f32 (iotaInDim S129 32 0)

/-- The window. -/
def winV : FVec Ideal S256 .f32 :=
  mulf (broadcastInDim S256 ![] bcast_S_S256 (constant S_ .f32 0x3F000000#32))
    (subf (broadcastInDim S256 ![] bcast_S_S256 (constant S_ .f32 0x3F800000#32))
      (Host.cos (Host.divf (mulf (broadcastInDim S256 ![] bcast_S_S256 (constant S_ .f32 0x40C90FDB#32)) nums256)
        (broadcastInDim S256 ![] bcast_S_S256 (constant S_ .f32 0x43800000#32)))))

/-- The angles. -/
def angV : FVec Ideal S256x129 .f32 :=
  Host.divf (mulf (broadcastInDim S256x129 ![] bcast_S_S256x129 (constant S_ .f32 0x40C90FDB#32))
      (mulf (broadcastInDim S256x129 ![0, 1] bcast_S256x1_S256x129_0_1 (broadcastInDim S256x1 ![0] bcast_S256_S256x1_0 nums256))
        (broadcastInDim S256x129 ![0, 1] bcast_S1x129_S256x129_0_1 (broadcastInDim S1x129 ![1] bcast_S129_S1x129_1 nums129))))
    (broadcastInDim S256x129 ![] bcast_S_S256x129 (constant S_ .f32 0x43800000#32))

/-- A table times the window, sample by sample. -/
def windowed (x : FVec Ideal S256x129 .f32) : FVec Ideal S256x129 .f32 :=
  mulf (broadcastInDim S256x129 ![0, 1] bcast_S256x1_S256x129_0_1 (broadcastInDim S256x1 ![0] bcast_S256_S256x1_0 winV)) x

/-- A table folded for the first frame. -/
def front (x : FVec Ideal S256x129 .f32) : FVec Ideal S256x129 .f32 :=
  addf (pad S256x129 ![0, 0] ![128, 0] ![0, 0] (extractStridedSlice S128x129 ![128, 0] x slices_S256x129_S128x129_128_0) (constant S_ .f32 0x00000000#32)
      pads_S128x129_S256x129_01280_000 h_S_)
    (pad S256x129 ![1, 0] ![127, 0] ![0, 0] (Host.reverse [0] (extractStridedSlice S128x129 ![0, 0] x slices_S256x129_S128x129_0_0))
      (constant S_ .f32 0x00000000#32) pads_S128x129_S256x129_11270_000 h_S_)

/-- A table folded for the last frame. -/
def back (x : FVec Ideal S256x129 .f32) : FVec Ideal S256x129 .f32 :=
  addf (pad S256x129 ![128, 0] ![0, 0] ![0, 0] (extractStridedSlice S128x129 ![0, 0] x slices_S256x129_S128x129_0_0) (constant S_ .f32 0x00000000#32)
      pads_S128x129_S256x129_12800_000 h_S_)
    (pad S256x129 ![127, 0] ![1, 0] ![0, 0] (Host.reverse [0] (extractStridedSlice S128x129 ![128, 0] x slices_S256x129_S128x129_128_0))
      (constant S_ .f32 0x00000000#32) pads_S128x129_S256x129_12710_000 h_S_)

variable (m : (ℓ : Loc nD τ sig) → Buf (Elt Ideal) ℓ) (ρ : Dev nD → PrngReg) (c : Dev nD)

/-- The windowed cosines. -/
theorem W1_v23 : W1 m ρ c main_v23 = windowed (Host.cos angV) := by
  show StableHlo.after hostOps0 (W0 m ρ c) _ = _
  unfold windowed winV angV
  simp only [hostOps0]
  after_results_simp <;> rfl

/-- The windowed sines. -/
theorem W1_v27 : W1 m ρ c main_v27 = windowed (Host.sin angV) := by
  show StableHlo.after hostOps0 (W0 m ρ c) _ = _
  unfold windowed winV angV
  simp only [hostOps0]
  after_results_simp <;> rfl

/-- The first frame's cosines. -/
theorem W1_v33 : W1 m ρ c main_v33 = front (windowed (Host.cos angV)) := by
  show StableHlo.after hostOps0 (W0 m ρ c) _ = _
  unfold front windowed winV angV
  simp only [hostOps0]
  after_results_simp <;> rfl

/-- The first frame's sines. -/
theorem W1_v39 : W1 m ρ c main_v39 = front (windowed (Host.sin angV)) := by
  show StableHlo.after hostOps0 (W0 m ρ c) _ = _
  unfold front windowed winV angV
  simp only [hostOps0]
  after_results_simp <;> rfl

/-- The last frame's cosines. -/
theorem W1_v45 : W1 m ρ c main_v45 = back (windowed (Host.cos angV)) := by
  show StableHlo.after hostOps0 (W0 m ρ c) _ = _
  unfold back windowed winV angV
  simp only [hostOps0]
  after_results_simp <;> rfl

/-- The last frame's sines. -/
theorem W1_v51 : W1 m ρ c main_v51 = back (windowed (Host.sin angV)) := by
  show StableHlo.after hostOps0 (W0 m ρ c) _ = _
  unfold back windowed winV angV
  simp only [hostOps0]
  after_results_simp <;> rfl

/-- The gate's first biases, as a row. -/
theorem W1_v52 : W1 m ρ c main_v52 = (shapeCast S1x256 (m ((c : Thread nD τ).loc main_arg2) : FVec Ideal S256 .f32) shapeCasts_S256_S1x256 : FVec Ideal S1x256 .f32) := by
  show StableHlo.after hostOps0 (W0 m ρ c) _ = _
  simp only [hostOps0]
  after_results_simp <;> rfl

/-- The gate's second biases, as a row. -/
theorem W1_v53 : W1 m ρ c main_v53 = (shapeCast S1x16 (m ((c : Thread nD τ).loc main_arg4) : FVec Ideal S16 .f32) shapeCasts_S16_S1x16 : FVec Ideal S1x16 .f32) := by
  show StableHlo.after hostOps0 (W0 m ρ c) _ = _
  simp only [hostOps0]
  after_results_simp <;> rfl

/-- The choice of experts. -/
theorem W1_cst : W1 m ρ c main_cst = (fun i => FloatOps.ofBits (F := Ideal) .f32 (lit0 (S4x16x256.rowMajor i)) : FVec Ideal S4x16x256 .f32) := by
  show StableHlo.after hostOps0 (W0 m ρ c) _ = _
  simp only [hostOps0]
  after_results_simp <;> rfl

/-- The two programs' windows are one. -/
theorem winV_eq : winV = Ref.win := rfl

/-- The two programs' angles are one. -/
theorem angV_eq : angV = Ref.ang := rfl

/-- The windowed table, read. -/
theorem windowed_apply (x : FVec Ideal S256x129 .f32) (n : Fin 256) (f : Fin 129) : windowed x (ix2 n f) = Ref.win (ix1 n) * x (ix2 n f) := by
  rw [← winV_eq]
  unfold windowed
  pointwise []

/-- The first frame's table, read. -/
theorem front_apply (x : FVec Ideal S256x129 .f32) (j : Fin 256) (f : Fin 129) :
    front x (ix2 j f) = (if h : j.val < 128 then x (ix2 ⟨128 + j.val, by omega⟩ f) else 0)
      + (if h : 1 ≤ j.val ∧ j.val < 129 then x (ix2 ⟨128 - j.val, by omega⟩ f) else 0) := by
  unfold front
  pointwise []
  refine congrArg₂ (· + ·) ?_ ?_
  · rfl
  · by_cases h : 1 ≤ j.val ∧ j.val - 1 < 128
    · rw [dif_pos h, dif_pos (by omega)]
      refine congrArg x (funext fun a => Fin.ext ?_)
      match a with
      | ⟨0, _⟩ =>
        show (Fin.rev (⟨j.val - 1, _⟩ : Fin 128)).val = 128 - j.val
        rw [Fin.val_rev]
        dsimp only
        omega
      | ⟨1, _⟩ => rfl
    · rw [dif_neg h, dif_neg (by omega)]

/-- The last frame's table, read. -/
theorem back_apply (x : FVec Ideal S256x129 .f32) (j : Fin 256) (f : Fin 129) :
    back x (ix2 j f) = (if h : 128 ≤ j.val then x (ix2 ⟨j.val - 128, by omega⟩ f) else 0)
      + (if h : 127 ≤ j.val ∧ j.val < 255 then x (ix2 ⟨382 - j.val, by omega⟩ f) else 0) := by
  unfold back
  pointwise []
  refine congrArg₂ (· + ·) ?_ ?_
  · by_cases h : 128 ≤ j.val
    · rw [dif_pos ⟨h, by omega⟩, dif_pos h]
    · rw [dif_neg (fun h' => h h'.1), dif_neg h]
  · by_cases h : 127 ≤ j.val ∧ j.val - 127 < 128
    · rw [dif_pos h, dif_pos (by omega)]
      refine congrArg x (funext fun a => Fin.ext ?_)
      match a with
      | ⟨0, _⟩ =>
        show 128 + (Fin.rev (⟨j.val - 127, _⟩ : Fin 128)).val = 382 - j.val
        rw [Fin.val_rev]
        dsimp only
        omega
      | ⟨1, _⟩ => rfl
    · rw [dif_neg h, dif_neg (by omega)]

/-- A vector cast to a row, read. -/
theorem row256_apply (x : FVec Ideal S256 .f32) (k : Fin 256) : (shapeCast S1x256 x shapeCasts_S256_S1x256 : FVec Ideal S1x256 .f32) (ix2 0 k) = x (ix1 k) := by
  pointwise []

/-- A vector cast to a row, read. -/
theorem row16_apply (x : FVec Ideal S16 .f32) (k : Fin 16) : (shapeCast S1x16 x shapeCasts_S16_S1x16 : FVec Ideal S1x16 .f32) (ix2 0 k) = x (ix1 k) := by
  pointwise []

/-- The first layer, its experts side by side. -/
theorem W3_v57 : W3 m ρ c main_v57 = (truncf .bf16 (shapeCast S2048x1024 (transpose S2048x16x64 [1, 0, 2] (W2 m ρ c main_arg5 : FVec Ideal S16x2048x64 .f32)
      transposes_S16x2048x64_S2048x16x64_1_0_2) shapeCasts_S2048x16x64_S2048x1024) bitsLt_bf16_f32 : FVec Ideal S2048x1024 .bf16) := by
  show StableHlo.after hostOps1 (W2 m ρ c) _ = _
  simp only [hostOps1]
  after_results_simp <;> rfl

/-- The first biases, side by side. -/
theorem W3_v58 : W3 m ρ c main_v58 = (shapeCast S1x1024 (W2 m ρ c main_arg6 : FVec Ideal S16x64 .f32) shapeCasts_S16x64_S1x1024 : FVec Ideal S1x1024 .f32) := by
  show StableHlo.after hostOps1 (W2 m ρ c) _ = _
  simp only [hostOps1]
  after_results_simp <;> rfl

/-- The second layer, its experts one under another. -/
theorem W3_v60 : W3 m ρ c main_v60 = (truncf .bf16 (shapeCast S1024x64 (W2 m ρ c main_arg7 : FVec Ideal S16x64x64 .f32) shapeCasts_S16x64x64_S1024x64) bitsLt_bf16_f32 : FVec Ideal S1024x64 .bf16) := by
  show StableHlo.after hostOps1 (W2 m ρ c) _ = _
  simp only [hostOps1]
  after_results_simp <;> rfl

/-- The first layer side by side, read. -/
theorem wide_apply (x : FVec Ideal S16x2048x64 .f32) (l : Fin 2048) (q : Fin 1024) :
    (truncf .bf16 (shapeCast S2048x1024 (transpose S2048x16x64 [1, 0, 2] x
      transposes_S16x2048x64_S2048x16x64_1_0_2) shapeCasts_S2048x16x64_S2048x1024) bitsLt_bf16_f32 : FVec Ideal S2048x1024 .bf16) (ix2 l q)
      = x (ix3 ⟨q.val / 64, by omega⟩ l ⟨q.val % 64, by omega⟩) := by
  pointwise []

/-- The first biases side by side, read. -/
theorem wideBias_apply (x : FVec Ideal S16x64 .f32) (q : Fin 1024) :
    (shapeCast S1x1024 x shapeCasts_S16x64_S1x1024 : FVec Ideal S1x1024 .f32) (ix2 0 q) = x (ix2 ⟨q.val / 64, by omega⟩ ⟨q.val % 64, by omega⟩) := by
  pointwise []

/-- The second layer one under another, read. -/
theorem tall_apply (x : FVec Ideal S16x64x64 .f32) (q : Fin 1024) (o : Fin 64) :
    (truncf .bf16 (shapeCast S1024x64 x shapeCasts_S16x64x64_S1024x64) bitsLt_bf16_f32 : FVec Ideal S1024x64 .bf16) (ix2 q o)
      = x (ix3 ⟨q.val / 64, by omega⟩ ⟨q.val % 64, by omega⟩ o) := by
  pointwise []

end Cert.Proof.Ker

end
-- ==== Proof.Mean.lean ====
/- The seventeen magnitudes of a row: what the kernel's folded tables give is what the reference's reflected frames give. -/
module

public import proofs.«01_k».proof.Proof.Reals
public import proofs.«01_k».proof.Proof.Gate
public import proofs.«01_k».proof.Proof.Host

@[expose] public section

set_option maxRecDepth 16384

noncomputable section

namespace Cert.Proof.Mean

open Cert.ReferenceIdeal Idealize.ShloMosaic Cert.Proof.Finite Cert.Proof.Ker
open Finset

/-- A row of reals, continued by zeros. -/
def ext {N : ℕ} (a : Fin N → ℝ) (n : ℕ) : ℝ := if h : n < N then a ⟨n, h⟩ else 0

/-- Within the row, the continued row is the row. -/
theorem ext_of {N : ℕ} (a : Fin N → ℝ) (n : ℕ) (h : n < N) : ext a n = a ⟨n, h⟩ := dif_pos h

/-- The first frame: the folded table against the row's first 256 entries is the table against the reflected frame. -/
theorem front_sum (X : Fin 2048 → EReal) (hX : ∀ l, IsReal (X l)) (W E : Fin 256 → EReal) (hW : ∀ n, IsReal (W n))
    (hE : ∀ j : Fin 256, E j = (if h : j.val < 128 then W ⟨128 + j.val, by omega⟩ else 0) + (if h : 1 ≤ j.val ∧ j.val < 129 then W ⟨128 - j.val, by omega⟩ else 0)) :
    ∑ j, at128 X 0 j * E j = ∑ n : Fin 256, X ⟨Ref.srcCol ((0 : Fin 17).val * 128 + n.val), Ref.srcCol_lt _ (by have := n.isLt; simp; omega)⟩ * W n := by
  choose a ha using hX
  choose w hw using hW
  have key := Dft.fold_front (ext a) (ext w)
  rw [sum_range, sum_range] at key
  refine Eq.trans ?_ ((congrArg (fun r : ℝ => (r : EReal)) key).trans ?_)
  · rw [Dft.coe_sum]
    refine sum_congr rfl fun j _ => ?_
    have hj := j.isLt
    rw [EReal.coe_mul, EReal.coe_add, hE]
    refine congrArg₂ (· * ·) ?_ (congrArg₂ (· + ·) ?_ ?_)
    · unfold at128
      rw [ha, ext_of a j.val (by omega)]
      exact congrArg (fun l => ((a l : ℝ) : EReal)) (Fin.ext (by simp))
    · by_cases h : j.val < 128
      · rw [dif_pos h, if_pos h, hw, ext_of]
      · rw [dif_neg h, if_neg h, EReal.coe_zero]
    · by_cases h : 1 ≤ j.val ∧ j.val < 129
      · rw [dif_pos h, if_pos h, hw, ext_of]
      · rw [dif_neg h, if_neg h, EReal.coe_zero]
  · show ((∑ n : Fin 256, _ : ℝ) : EReal) = _
    rw [Dft.coe_sum]
    refine sum_congr rfl fun n _ => ?_
    have hn := n.isLt
    rw [EReal.coe_mul, ext_of w n.val hn, hw, ha]
    refine congrArg (fun r : ℝ => (r : EReal) * ((w n : ℝ) : EReal)) ?_
    by_cases h : n.val < 128
    · rw [if_pos h, ext_of a _ (by omega)]
      exact congrArg a (Fin.ext (by simp [Ref.srcCol, h]))
    · rw [if_neg h, ext_of a _ (by omega)]
      exact congrArg a (Fin.ext (by simp [Ref.srcCol, h]; omega))

/-- The last frame, likewise against the row's last 256 entries. -/
theorem back_sum (X : Fin 2048 → EReal) (hX : ∀ l, IsReal (X l)) (W E : Fin 256 → EReal) (hW : ∀ n, IsReal (W n))
    (hE : ∀ j : Fin 256, E j = (if h : 128 ≤ j.val then W ⟨j.val - 128, by omega⟩ else 0) + (if h : 127 ≤ j.val ∧ j.val < 255 then W ⟨382 - j.val, by omega⟩ else 0)) :
    ∑ j, at128 X 14 j * E j = ∑ n : Fin 256, X ⟨Ref.srcCol ((16 : Fin 17).val * 128 + n.val), Ref.srcCol_lt _ (by have := n.isLt; simp; omega)⟩ * W n := by
  choose a ha using hX
  choose w hw using hW
  have key := Dft.fold_back (fun j => ext a (1792 + j)) (ext w)
  rw [sum_range, sum_range] at key
  refine Eq.trans ?_ ((congrArg (fun r : ℝ => (r : EReal)) key).trans ?_)
  · rw [Dft.coe_sum]
    refine sum_congr rfl fun j _ => ?_
    have hj := j.isLt
    rw [EReal.coe_mul, EReal.coe_add, hE]
    refine congrArg₂ (· * ·) ?_ (congrArg₂ (· + ·) ?_ ?_)
    · unfold at128
      rw [ha, ext_of a (1792 + j.val) (by omega)]
      exact congrArg (fun l => ((a l : ℝ) : EReal)) (Fin.ext (by simp))
    · by_cases h : 128 ≤ j.val
      · rw [dif_pos h, if_pos h, hw, ext_of]
      · rw [dif_neg h, if_neg h, EReal.coe_zero]
    · by_cases h : 127 ≤ j.val ∧ j.val < 255
      · rw [dif_pos h, if_pos h, hw, ext_of]
      · rw [dif_neg h, if_neg h, EReal.coe_zero]
  · show ((∑ n : Fin 256, _ : ℝ) : EReal) = _
    rw [Dft.coe_sum]
    refine sum_congr rfl fun n _ => ?_
    have hn := n.isLt
    rw [EReal.coe_mul, ext_of w n.val hn, hw, ha]
    refine congrArg (fun r : ℝ => (r : EReal) * ((w n : ℝ) : EReal)) ?_
    have h16 : (16 : Fin 17).val = 16 := rfl
    by_cases h : n.val < 128
    · rw [if_pos h, ext_of a _ (by omega)]
      refine congrArg a (Fin.ext ?_)
      show 1792 + (128 + n.val) = Ref.srcCol ((16 : Fin 17).val * 128 + n.val)
      rw [h16]
      unfold Ref.srcCol
      rw [if_neg (by omega), if_pos (by omega)]
      omega
    · rw [if_neg h, ext_of a _ (by omega)]
      refine congrArg a (Fin.ext ?_)
      show 1792 + (382 - n.val) = Ref.srcCol ((16 : Fin 17).val * 128 + n.val)
      rw [h16]
      unfold Ref.srcCol
      rw [if_neg (by omega), if_neg (by omega)]
      omega

/-- An interior frame is a stretch of the row. -/
theorem mid_sum (X : Fin 2048 → EReal) (W : Fin 256 → EReal) (t : Fin 17) (s : Fin 15) (h : t.val = s.val + 1) :
    ∑ j, at128 X s j * W j = ∑ n : Fin 256, X ⟨Ref.srcCol (t.val * 128 + n.val), Ref.srcCol_lt _ (by have := n.isLt; have := t.isLt; omega)⟩ * W n := by
  refine sum_congr rfl fun n _ => congrArg (fun l => X l * W n) (Fin.ext ?_)
  have hn := n.isLt
  have hs := s.isLt
  show 128 * s.val + n.val = Ref.srcCol (t.val * 128 + n.val)
  unfold Ref.srcCol
  rw [h, if_neg (by omega), if_pos (by omega)]
  omega

/-- Seventeen terms, the first and last of them put in front. -/
theorem sum17 (M : Fin 17 → EReal) : ∑ t, M t = M 0 + M 16 + M 1 + M 2 + M 3 + M 4 + M 5 + M 6 + M 7 + M 8 + M 9 + M 10 + M 11 + M 12 + M 13 + M 14 + M 15 := by
  have h : ∑ t, M t = M 0 + (M 1 + (M 2 + (M 3 + (M 4 + (M 5 + (M 6 + (M 7 + (M 8 + (M 9 + (M 10 + (M 11 + (M 12 + (M 13 + (M 14 + (M 15 + (M 16 + 0)))))))))))))))) := by
    simp only [Fin.sum_univ_succ, Fin.sum_univ_zero]
    rfl
  rw [h]
  abel

section
variable (x : FVec Ideal S1024x2048 .f32) (hx : ∀ i, IsReal (x i)) (b : Fin 1024) (f : Fin 129)

/-- A frame's magnitude, from its two sums. -/
theorem mag_of (t : Fin 17) (c s a : Fin 256 → EReal)
    (hc : ∑ j, a j * c j = ∑ n : Fin 256, x (ix2 b ⟨Ref.srcCol (t.val * 128 + n.val), Ref.srcCol_lt _ (by have := n.isLt; have := t.isLt; omega)⟩)
      * (windowed (Host.cos angV) (ix2 n f)))
    (hs : ∑ j, a j * s j = ∑ n : Fin 256, x (ix2 b ⟨Ref.srcCol (t.val * 128 + n.val), Ref.srcCol_lt _ (by have := n.isLt; have := t.isLt; omega)⟩)
      * (windowed (Host.sin angV) (ix2 n f))) :
    magOf a c s = Ref.mag x (ix3 b t f) := by
  unfold magOf
  rw [Ref.mag_apply, neg_mul_neg, hc, hs]
  have ec : ∀ n : Fin 256, Ref.frames x (ix3 b t n) * Ideal.cos (Ref.ang (ix2 n f))
      = x (ix2 b ⟨Ref.srcCol (t.val * 128 + n.val), Ref.srcCol_lt _ (by have := n.isLt; have := t.isLt; omega)⟩) * (windowed (Host.cos angV) (ix2 n f)) := by
    intro n
    rw [Ref.frames_apply, windowed_apply, mul_assoc]
    rfl
  have es : ∀ n : Fin 256, Ref.frames x (ix3 b t n) * Ideal.sin (Ref.ang (ix2 n f))
      = x (ix2 b ⟨Ref.srcCol (t.val * 128 + n.val), Ref.srcCol_lt _ (by have := n.isLt; have := t.isLt; omega)⟩) * (windowed (Host.sin angV) (ix2 n f)) := by
    intro n
    rw [Ref.frames_apply, windowed_apply, mul_assoc]
    rfl
  simp only [ec, es]

/-- The windowed cosine table holds reals. -/
theorem cosW_real (n : Fin 256) : IsReal (windowed (Host.cos angV) (ix2 n f)) := by
  rw [windowed_apply]
  exact (win_real n).mul (ang_real n f).cos

/-- The windowed sine table holds reals. -/
theorem sinW_real (n : Fin 256) : IsReal (windowed (Host.sin angV) (ix2 n f)) := by
  rw [windowed_apply]
  exact (win_real n).mul (ang_real n f).sin

include hx

/-- The kernel's mean magnitude is the reference's. -/
theorem mean_eq : meanK (fun l => x (ix2 b l)) (fun n => windowed (Host.cos angV) (ix2 n f)) (fun n => windowed (Host.sin angV) (ix2 n f))
    (fun n => front (windowed (Host.cos angV)) (ix2 n f)) (fun n => front (windowed (Host.sin angV)) (ix2 n f))
    (fun n => back (windowed (Host.cos angV)) (ix2 n f)) (fun n => back (windowed (Host.sin angV)) (ix2 n f))
    = Ref.pooled x (ix2 b f) := by
  have hX : ∀ l, IsReal (x (ix2 b l)) := fun l => hx _
  have h0 := mag_of x b f 0 _ _ _ (front_sum (fun l => x (ix2 b l)) hX _ _ (cosW_real f) (fun j => front_apply (windowed (Host.cos angV)) j f))
    (front_sum (fun l => x (ix2 b l)) hX _ _ (sinW_real f) (fun j => front_apply (windowed (Host.sin angV)) j f))
  have h16 := mag_of x b f 16 _ _ _ (back_sum (fun l => x (ix2 b l)) hX _ _ (cosW_real f) (fun j => back_apply (windowed (Host.cos angV)) j f))
    (back_sum (fun l => x (ix2 b l)) hX _ _ (sinW_real f) (fun j => back_apply (windowed (Host.sin angV)) j f))
  have hm : ∀ (t : Fin 17) (s : Fin 15), t.val = s.val + 1 → magOf (at128 (fun l => x (ix2 b l)) s) (fun n => windowed (Host.cos angV) (ix2 n f))
      (fun n => windowed (Host.sin angV) (ix2 n f)) = Ref.mag x (ix3 b t f) := fun t s h =>
    mag_of x b f t _ _ _ (mid_sum (fun l => x (ix2 b l)) (fun n => windowed (Host.cos angV) (ix2 n f)) t s h)
      (mid_sum (fun l => x (ix2 b l)) (fun n => windowed (Host.sin angV) (ix2 n f)) t s h)
  unfold meanK
  rw [h0, h16, hm 1 0 rfl, hm 2 1 rfl, hm 3 2 rfl, hm 4 3 rfl, hm 5 4 rfl, hm 6 5 rfl, hm 7 6 rfl, hm 8 7 rfl, hm 9 8 rfl, hm 10 9 rfl,
    hm 11 10 rfl, hm 12 11 rfl, hm 13 12 rfl, hm 14 13 rfl, hm 15 14 rfl, Ref.pooled_apply, n17_eq, sum17 fun t => Ref.mag x (ix3 b t f)]
  unfold Ideal.div
  rw [if_neg (by norm_num), show ((17 : ℝ) : EReal)⁻¹ = ((1 / 17 : ℝ) : EReal) from by rw [← EReal.coe_inv]; norm_num]

end

end Cert.Proof.Mean

end
-- ==== Proof.Region0.lean ====
/- The gating kernel: what its two result arrays end holding, as formulas of the arrays it reads. -/
module

public import proofs.«01_k».proof.Proof.Gen.KernelIdeal.Frame
public import proofs.«01_k».proof.Proof.Gate
public import Idealize.ShloMosaic.Lib.Pipeline.Value

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The rows' block at point `t`: rows `256 t` and on. -/
theorem blk0_0 (c : Dev nD) (t : Fin cfg0.N) (r : Fin 256) (l : Fin 2048) (q : Fin 1024) (hq : q.val = 256 * t.val + r.val) :
    iblk0 V c 0 t (ix2 r l) = V c main_arg0 (ix2 q l) := by
  have hi : win0_0.index t 0 = t.val ∧ win0_0.index t 1 = 0 := by
    rcases fin_N0 t with rfl | rfl | rfl | rfl <;> decide
  unfold iblk0
  rw [View.read_apply]
  show V c main_arg0 _ = V c main_arg0 _
  congr 1
  funext a
  apply Fin.ext
  match a with
  | ⟨0, _⟩ => show win0_0.index t 0 * 256 + 1 * r.val = q.val; rw [hi.1]; omega
  | ⟨1, _⟩ => show win0_0.index t 1 * 2048 + 1 * l.val = l.val; rw [hi.2]; omega

/-- Window 1's block is its whole array. -/
theorem blk0_1 (c : Dev nD) (t : Fin cfg0.N) (p : Fin 256) (q : Fin 129) : iblk0 V c 1 t (ix2 p q) = V c main_v23 (ix2 p q) := by
  have hi : win0_1.index t 0 = 0 ∧ win0_1.index t 1 = 0 := by
    rcases fin_N0 t with rfl | rfl | rfl | rfl <;> decide
  unfold iblk0
  rw [View.read_apply]
  show V c main_v23 _ = V c main_v23 _
  congr 1
  funext a
  apply Fin.ext
  match a with
  | ⟨0, _⟩ => show win0_1.index t 0 * 256 + 1 * p.val = p.val; rw [hi.1]; omega
  | ⟨1, _⟩ => show win0_1.index t 1 * 129 + 1 * q.val = q.val; rw [hi.2]; omega

/-- Window 2's block is its whole array. -/
theorem blk0_2 (c : Dev nD) (t : Fin cfg0.N) (p : Fin 256) (q : Fin 129) : iblk0 V c 2 t (ix2 p q) = V c main_v27 (ix2 p q) := by
  have hi : win0_2.index t 0 = 0 ∧ win0_2.index t 1 = 0 := by
    rcases fin_N0 t with rfl | rfl | rfl | rfl <;> decide
  unfold iblk0
  rw [View.read_apply]
  show V c main_v27 _ = V c main_v27 _
  congr 1
  funext a
  apply Fin.ext
  match a with
  | ⟨0, _⟩ => show win0_2.index t 0 * 256 + 1 * p.val = p.val; rw [hi.1]; omega
  | ⟨1, _⟩ => show win0_2.index t 1 * 129 + 1 * q.val = q.val; rw [hi.2]; omega

/-- Window 3's block is its whole array. -/
theorem blk0_3 (c : Dev nD) (t : Fin cfg0.N) (p : Fin 256) (q : Fin 129) : iblk0 V c 3 t (ix2 p q) = V c main_v33 (ix2 p q) := by
  have hi : win0_3.index t 0 = 0 ∧ win0_3.index t 1 = 0 := by
    rcases fin_N0 t with rfl | rfl | rfl | rfl <;> decide
  unfold iblk0
  rw [View.read_apply]
  show V c main_v33 _ = V c main_v33 _
  congr 1
  funext a
  apply Fin.ext
  match a with
  | ⟨0, _⟩ => show win0_3.index t 0 * 256 + 1 * p.val = p.val; rw [hi.1]; omega
  | ⟨1, _⟩ => show win0_3.index t 1 * 129 + 1 * q.val = q.val; rw [hi.2]; omega

/-- Window 4's block is its whole array. -/
theorem blk0_4 (c : Dev nD) (t : Fin cfg0.N) (p : Fin 256) (q : Fin 129) : iblk0 V c 4 t (ix2 p q) = V c main_v39 (ix2 p q) := by
  have hi : win0_4.index t 0 = 0 ∧ win0_4.index t 1 = 0 := by
    rcases fin_N0 t with rfl | rfl | rfl | rfl <;> decide
  unfold iblk0
  rw [View.read_apply]
  show V c main_v39 _ = V c main_v39 _
  congr 1
  funext a
  apply Fin.ext
  match a with
  | ⟨0, _⟩ => show win0_4.index t 0 * 256 + 1 * p.val = p.val; rw [hi.1]; omega
  | ⟨1, _⟩ => show win0_4.index t 1 * 129 + 1 * q.val = q.val; rw [hi.2]; omega

/-- Window 5's block is its whole array. -/
theorem blk0_5 (c : Dev nD) (t : Fin cfg0.N) (p : Fin 256) (q : Fin 129) : iblk0 V c 5 t (ix2 p q) = V c main_v45 (ix2 p q) := by
  have hi : win0_5.index t 0 = 0 ∧ win0_5.index t 1 = 0 := by
    rcases fin_N0 t with rfl | rfl | rfl | rfl <;> decide
  unfold iblk0
  rw [View.read_apply]
  show V c main_v45 _ = V c main_v45 _
  congr 1
  funext a
  apply Fin.ext
  match a with
  | ⟨0, _⟩ => show win0_5.index t 0 * 256 + 1 * p.val = p.val; rw [hi.1]; omega
  | ⟨1, _⟩ => show win0_5.index t 1 * 129 + 1 * q.val = q.val; rw [hi.2]; omega

/-- Window 6's block is its whole array. -/
theorem blk0_6 (c : Dev nD) (t : Fin cfg0.N) (p : Fin 256) (q : Fin 129) : iblk0 V c 6 t (ix2 p q) = V c main_v51 (ix2 p q) := by
  have hi : win0_6.index t 0 = 0 ∧ win0_6.index t 1 = 0 := by
    rcases fin_N0 t with rfl | rfl | rfl | rfl <;> decide
  unfold iblk0
  rw [View.read_apply]
  show V c main_v51 _ = V c main_v51 _
  congr 1
  funext a
  apply Fin.ext
  match a with
  | ⟨0, _⟩ => show win0_6.index t 0 * 256 + 1 * p.val = p.val; rw [hi.1]; omega
  | ⟨1, _⟩ => show win0_6.index t 1 * 129 + 1 * q.val = q.val; rw [hi.2]; omega

/-- Window 7's block is its whole array. -/
theorem blk0_7 (c : Dev nD) (t : Fin cfg0.N) (p : Fin 129) (q : Fin 256) : iblk0 V c 7 t (ix2 p q) = V c main_arg1 (ix2 p q) := by
  have hi : win0_7.index t 0 = 0 ∧ win0_7.index t 1 = 0 := by
    rcases fin_N0 t with rfl | rfl | rfl | rfl <;> decide
  unfold iblk0
  rw [View.read_apply]
  show V c main_arg1 _ = V c main_arg1 _
  congr 1
  funext a
  apply Fin.ext
  match a with
  | ⟨0, _⟩ => show win0_7.index t 0 * 129 + 1 * p.val = p.val; rw [hi.1]; omega
  | ⟨1, _⟩ => show win0_7.index t 1 * 256 + 1 * q.val = q.val; rw [hi.2]; omega

/-- Window 8's block is its whole array. -/
theorem blk0_8 (c : Dev nD) (t : Fin cfg0.N) (p : Fin 1) (q : Fin 256) : iblk0 V c 8 t (ix2 p q) = V c main_v52 (ix2 p q) := by
  have hi : win0_8.index t 0 = 0 ∧ win0_8.index t 1 = 0 := by
    rcases fin_N0 t with rfl | rfl | rfl | rfl <;> decide
  unfold iblk0
  rw [View.read_apply]
  show V c main_v52 _ = V c main_v52 _
  congr 1
  funext a
  apply Fin.ext
  match a with
  | ⟨0, _⟩ => show win0_8.index t 0 * 1 + 1 * p.val = p.val; rw [hi.1]; omega
  | ⟨1, _⟩ => show win0_8.index t 1 * 256 + 1 * q.val = q.val; rw [hi.2]; omega

/-- Window 9's block is its whole array. -/
theorem blk0_9 (c : Dev nD) (t : Fin cfg0.N) (p : Fin 256) (q : Fin 16) : iblk0 V c 9 t (ix2 p q) = V c main_arg3 (ix2 p q) := by
  have hi : win0_9.index t 0 = 0 ∧ win0_9.index t 1 = 0 := by
    rcases fin_N0 t with rfl | rfl | rfl | rfl <;> decide
  unfold iblk0
  rw [View.read_apply]
  show V c main_arg3 _ = V c main_arg3 _
  congr 1
  funext a
  apply Fin.ext
  match a with
  | ⟨0, _⟩ => show win0_9.index t 0 * 256 + 1 * p.val = p.val; rw [hi.1]; omega
  | ⟨1, _⟩ => show win0_9.index t 1 * 16 + 1 * q.val = q.val; rw [hi.2]; omega

/-- Window 10's block is its whole array. -/
theorem blk0_10 (c : Dev nD) (t : Fin cfg0.N) (p : Fin 1) (q : Fin 16) : iblk0 V c 10 t (ix2 p q) = V c main_v53 (ix2 p q) := by
  have hi : win0_10.index t 0 = 0 ∧ win0_10.index t 1 = 0 := by
    rcases fin_N0 t with rfl | rfl | rfl | rfl <;> decide
  unfold iblk0
  rw [View.read_apply]
  show V c main_v53 _ = V c main_v53 _
  congr 1
  funext a
  apply Fin.ext
  match a with
  | ⟨0, _⟩ => show win0_10.index t 0 * 1 + 1 * p.val = p.val; rw [hi.1]; omega
  | ⟨1, _⟩ => show win0_10.index t 1 * 16 + 1 * q.val = q.val; rw [hi.2]; omega

/-- The weights of every row, from the arrays the kernel reads. -/
abbrev wm (c : Dev nD) : Buf (Elt Ideal) ((c : Thread nD τ).loc main_v54_0) := fun i : S1024x16.Idx =>
  rowWeights (logits (fun f => meanK (fun l => V c main_arg0 (ix2 (i 0) l)) (fun n => V c main_v23 (ix2 n f)) (fun n => V c main_v27 (ix2 n f))
    (fun n => V c main_v33 (ix2 n f)) (fun n => V c main_v39 (ix2 n f)) (fun n => V c main_v45 (ix2 n f)) (fun n => V c main_v51 (ix2 n f)))
    (fun f k => V c main_arg1 (ix2 f k)) (fun k => V c main_v52 (ix2 0 k)) (fun k e => V c main_arg3 (ix2 k e)) (fun e => V c main_v53 (ix2 0 e))) (i 1)

/-- An index of the weights is in point `t`'s block when its row is. -/
theorem mem_blk11 (t : Fin cfg0.N) (i : S1024x16.Idx) (h : t.val * 256 ≤ (i 0 : Nat) ∧ (i 0 : Nat) < t.val * 256 + 256) :
    i ∈ ((cfg0.win 11).blk t).view.set := by
  show i ∈ ((View.whole main_v54_0).slice (win0_11.rect t)).set
  rw [View.set_slice_whole, Rect.mem_set_unit]
  have h1 : (i 1 : Nat) < 16 := (i 1).isLt
  have e : win0_11.index t 0 * win0_11.size 0 = t.val * 256 ∧ win0_11.xsize (grid0.coords t) 0 = 256
      ∧ win0_11.index t 1 * win0_11.size 1 = 0 ∧ win0_11.xsize (grid0.coords t) 1 = 16 := by
    rcases fin_N0 t with rfl | rfl | rfl | rfl <;> decide +kernel
  intro a
  match a with
  | ⟨0, _⟩ => show win0_11.index t 0 * win0_11.size 0 ≤ (i 0 : Nat) ∧ (i 0 : Nat) < win0_11.index t 0 * win0_11.size 0 + win0_11.xsize (grid0.coords t) 0
              rw [e.1, e.2.1]; exact h
  | ⟨1, _⟩ => show win0_11.index t 1 * win0_11.size 1 ≤ (i 1 : Nat) ∧ (i 1 : Nat) < win0_11.index t 1 * win0_11.size 1 + win0_11.xsize (grid0.coords t) 1
              rw [e.2.2.1, e.2.2.2]; omega

/-- An index of the copied rows is in point `t`'s block when its row is. -/
theorem mem_blk12 (t : Fin cfg0.N) (i : S1024x2048.Idx) (h : t.val * 256 ≤ (i 0 : Nat) ∧ (i 0 : Nat) < t.val * 256 + 256) :
    i ∈ ((cfg0.win 12).blk t).view.set := by
  show i ∈ ((View.whole main_v54_1).slice (win0_12.rect t)).set
  rw [View.set_slice_whole, Rect.mem_set_unit]
  have h1 : (i 1 : Nat) < 2048 := (i 1).isLt
  have e : win0_12.index t 0 * win0_12.size 0 = t.val * 256 ∧ win0_12.xsize (grid0.coords t) 0 = 256
      ∧ win0_12.index t 1 * win0_12.size 1 = 0 ∧ win0_12.xsize (grid0.coords t) 1 = 2048 := by
    rcases fin_N0 t with rfl | rfl | rfl | rfl <;> decide +kernel
  intro a
  match a with
  | ⟨0, _⟩ => show win0_12.index t 0 * win0_12.size 0 ≤ (i 0 : Nat) ∧ (i 0 : Nat) < win0_12.index t 0 * win0_12.size 0 + win0_12.xsize (grid0.coords t) 0
              rw [e.1, e.2.1]; exact h
  | ⟨1, _⟩ => show win0_12.index t 1 * win0_12.size 1 ≤ (i 1 : Nat) ∧ (i 1 : Nat) < win0_12.index t 1 * win0_12.size 1 + win0_12.xsize (grid0.coords t) 1
              rw [e.2.2.1, e.2.2.2]; omega

/-- Row `r` of block `t`, among all 1024. -/
def rowOf (t : Fin cfg0.N) (r : Fin 256) : Fin 1024 :=
  ⟨256 * t.val + r.val, by have := t.isLt; have := r.isLt; have : cfg0.N = 4 := N_0; omega⟩

/-- Every point writes back its rows' weights. -/
theorem flushed11_eq (c : Dev nD) (t : Fin cfg0.N) : (dat0 V c).flushed 11 t = ((cfg0.win 11).blk t).view.read (Elt Ideal) (wm V c) := by
  show (cfg0.win 11).cut (grid0.coords t) ((dat0 V c).after 11 t) = _
  rw [after0_11]
  funext j
  have hi : win0_11.index t 0 = t.val ∧ win0_11.index t 1 = 0 := by
    rcases fin_N0 t with rfl | rfl | rfl | rfl <;> decide
  obtain ⟨r, e, rfl⟩ : ∃ (r : Fin 256) (e : Fin 16), j = ix2 r e := ⟨j 0, j 1, funext fun a => by fin_cases a <;> rfl⟩
  rw [View.read_apply]
  refine Eq.trans (b := wm V c (ix2 (rowOf t r) e)) ?_ ?_
  · refine (out11_apply _ _ _ _ _ _ _ _ _ _ _ r e).trans ?_
    have e0 := fun l => blk0_0 V c t r l (rowOf t r) rfl
    show _ = rowWeights (logits (fun f => meanK (fun l => V c main_arg0 (ix2 (rowOf t r) l)) (fun n => V c main_v23 (ix2 n f)) (fun n => V c main_v27 (ix2 n f))
      (fun n => V c main_v33 (ix2 n f)) (fun n => V c main_v39 (ix2 n f)) (fun n => V c main_v45 (ix2 n f)) (fun n => V c main_v51 (ix2 n f)))
      (fun f k => V c main_arg1 (ix2 f k)) (fun k => V c main_v52 (ix2 0 k)) (fun k e => V c main_arg3 (ix2 k e)) (fun e => V c main_v53 (ix2 0 e))) e
    simp only [e0, blk0_1, blk0_2, blk0_3, blk0_4, blk0_5, blk0_6, blk0_7, blk0_8, blk0_9, blk0_10]
  · show wm V c _ = wm V c _
    congr 1
    funext a
    apply Fin.ext
    match a with
    | ⟨0, _⟩ => show 256 * t.val + r.val = win0_11.index t 0 * 256 + 1 * r.val; rw [hi.1]; omega
    | ⟨1, _⟩ => show e.val = win0_11.index t 1 * 16 + 1 * e.val; rw [hi.2]; omega

/-- Every point writes back its rows. -/
theorem flushed12_eq (c : Dev nD) (t : Fin cfg0.N) : (dat0 V c).flushed 12 t
    = ((cfg0.win 12).blk t).view.read (Elt Ideal) (fun i : S1024x2048.Idx => V c main_arg0 i : Buf (Elt Ideal) ((c : Thread nD τ).loc main_v54_1)) := by
  show (cfg0.win 12).cut (grid0.coords t) ((dat0 V c).after 12 t) = _
  rw [after0_12]
  funext j
  have hi : win0_12.index t 0 = t.val ∧ win0_12.index t 1 = 0 := by
    rcases fin_N0 t with rfl | rfl | rfl | rfl <;> decide
  obtain ⟨r, l, rfl⟩ : ∃ (r : Fin 256) (l : Fin 2048), j = ix2 r l := ⟨j 0, j 1, funext fun a => by fin_cases a <;> rfl⟩
  rw [View.read_apply]
  refine Eq.trans (b := V c main_arg0 (ix2 (rowOf t r) l)) ?_ ?_
  · exact (out12_apply _ _ _ _ _ _ _ _ _ _ _ (ix2 r l)).trans (blk0_0 V c t r l (rowOf t r) rfl)
  · show V c main_arg0 _ = V c main_arg0 _
    congr 1
    funext a
    apply Fin.ext
    match a with
    | ⟨0, _⟩ => show 256 * t.val + r.val = win0_12.index t 0 * 256 + 1 * r.val; rw [hi.1]; omega
    | ⟨1, _⟩ => show l.val = win0_12.index t 1 * 2048 + 1 * l.val; rw [hi.2]; omega

/-- A row is in one of the four blocks. -/
theorem exists_blk (n : Nat) (h : n < 1024) : ∃ t : Fin cfg0.N, t.val * 256 ≤ n ∧ n < t.val * 256 + 256 :=
  ⟨⟨n / 256, by have : cfg0.N = 4 := N_0; omega⟩, by dsimp only; omega, by dsimp only; omega⟩

/-- The weights' array ends holding every row's weights. -/
theorem final11 (c : Dev nD) : (dat0 V c).arrAt 11 cfg0.N = wm V c :=
  (dat0 V c).arrAt_eq_of_cover 11 (wm V c) (fun t _ => flushed11_eq V c t) fun i => by
    obtain ⟨t, ht⟩ := exists_blk (i 0 : Nat) (i 0).isLt
    exact ⟨t, flush0_11 t, mem_blk11 t i ht⟩

/-- The copy's array ends holding the rows. -/
theorem final12 (c : Dev nD) : (dat0 V c).arrAt 12 cfg0.N = (fun i : S1024x2048.Idx => V c main_arg0 i : Buf (Elt Ideal) ((c : Thread nD τ).loc main_v54_1)) :=
  (dat0 V c).arrAt_eq_of_cover 12 _ (fun t _ => flushed12_eq V c t) fun i => by
    obtain ⟨t, ht⟩ := exists_blk (i 0 : Nat) (i 0).isLt
    exact ⟨t, flush0_12 t, mem_blk12 t i ht⟩

/-- A row's weights, from the entries of the arrays the kernel reads. -/
theorem wm_apply (c : Dev nD) (b : Fin 1024) (e : Fin 16) (X : Fin 2048 → EReal) (C S C₀ S₀ C₁ S₁ : Fin 256 → Fin 129 → EReal)
    (g1 : Fin 129 → Fin 256 → EReal) (b1 : Fin 256 → EReal) (g2 : Fin 256 → Fin 16 → EReal) (b2 : Fin 16 → EReal)
    (hX : ∀ l, V c main_arg0 (ix2 b l) = X l) (hC : ∀ n f, V c main_v23 (ix2 n f) = C n f) (hS : ∀ n f, V c main_v27 (ix2 n f) = S n f)
    (hC₀ : ∀ n f, V c main_v33 (ix2 n f) = C₀ n f) (hS₀ : ∀ n f, V c main_v39 (ix2 n f) = S₀ n f)
    (hC₁ : ∀ n f, V c main_v45 (ix2 n f) = C₁ n f) (hS₁ : ∀ n f, V c main_v51 (ix2 n f) = S₁ n f)
    (hg1 : ∀ f k, V c main_arg1 (ix2 f k) = g1 f k) (hb1 : ∀ k, V c main_v52 (ix2 0 k) = b1 k)
    (hg2 : ∀ k e, V c main_arg3 (ix2 k e) = g2 k e) (hb2 : ∀ e, V c main_v53 (ix2 0 e) = b2 e) :
    wm V c (ix2 b e) = rowWeights (logits (fun f => meanK X (fun n => C n f) (fun n => S n f) (fun n => C₀ n f) (fun n => S₀ n f)
      (fun n => C₁ n f) (fun n => S₁ n f)) g1 b1 g2 b2) e := by
  show rowWeights (logits (fun f => meanK (fun l => V c main_arg0 (ix2 b l)) (fun n => V c main_v23 (ix2 n f)) (fun n => V c main_v27 (ix2 n f))
      (fun n => V c main_v33 (ix2 n f)) (fun n => V c main_v39 (ix2 n f)) (fun n => V c main_v45 (ix2 n f)) (fun n => V c main_v51 (ix2 n f)))
      (fun f k => V c main_arg1 (ix2 f k)) (fun k => V c main_v52 (ix2 0 k)) (fun k e => V c main_arg3 (ix2 k e)) (fun e => V c main_v53 (ix2 0 e))) e = _
  simp only [hX, hC, hS, hC₀, hS₀, hC₁, hS₁, hg1, hb1, hg2, hb2]

end Cert.Proof.Ker

end
-- ==== Proof.Region1.lean ====
/- The experts' kernel: what its result array ends holding, as a formula of the arrays it reads. -/
module

public import proofs.«01_k».proof.Proof.Gen.KernelIdeal.Frame
public import proofs.«01_k».proof.Proof.KerRead
public import Idealize.ShloMosaic.Lib.Pipeline.Value
public import Idealize.ShloMosaic.Lib.Tactic

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The pair of zero offsets is the offset that is zero everywhere. -/
theorem hz2 : (![0, 0] : Fin 2 → Nat) = fun _ => 0 := funext fun a => by fin_cases a <;> rfl

/-- The triple of zero offsets is the offset that is zero everywhere. -/
theorem hz3 : (![0, 0, 0] : Fin 3 → Nat) = fun _ => 0 := funext fun a => by fin_cases a <;> rfl

/-- A later point adds its group's share to what the buffer held. -/
theorem out1_B (c : Dev nD) (i : grid1.Coords) (arg1 : Memref sig .tc .vmem S1024x2048 .bf16) (harg1 : arg1.IsWhole) (arg2 : Memref sig .tc .vmem S2048x256 .bf16) (harg2 : arg2.IsWhole) (arg3 : Memref sig .tc .vmem S1x256 .f32) (harg3 : arg3.IsWhole) (arg4 : Memref sig .tc .vmem S1x16x256 .f32) (harg4 : arg4.IsWhole) (arg5 : Memref sig .tc .vmem S256x64 .bf16) (harg5 : arg5.IsWhole) (arg6 : Memref sig .tc .vmem S16x64 .f32) (harg6 : arg6.IsWhole) (arg7 : Memref sig .tc .vmem S1024x16 .f32) (harg7 : arg7.IsWhole) (arg8 : Memref sig .tc .vmem S1024x64 .f32) (harg8 : arg8.IsWhole) (hc0 : ¬cond1_0 i)
    (x0 : Vec Ideal S1024x2048 .bf16) (x1 : Vec Ideal S2048x256 .bf16) (x2 : Vec Ideal S1x256 .f32) (x3 : Vec Ideal S1x16x256 .f32) (x4 : Vec Ideal S256x64 .bf16) (x5 : Vec Ideal S16x64 .f32) (x6 : Vec Ideal S1024x16 .f32) (xo7 : Vec Ideal S1024x64 .f32) :
    out1_B_7 c i arg1 harg1 arg2 harg2 arg3 harg3 arg4 harg4 arg5 harg5 arg6 harg6 arg7 harg7 arg8 harg8 hc0 x0 x1 x2 x3 x4 x5 x6 xo7
      = k1_pay2 x0 x1 x2 x6 x3 x4 xo7 := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 x5 x6 xo7)]
  unfold kernelRun1_B
  dsimp only
  rw [View.canon_unit_zero hz2]
  simp only [View.readAt_eq_ld, harg1.read_unread, harg2.read_unread, harg3.read_unread, harg4.read_unread, harg5.read_unread, harg6.read_unread, harg7.read_unread, harg8.read_unread,
    View.ld_unit_zero (S := S1024x2048) hz2, View.ld_unit_zero (S := S2048x256) hz2, View.ld_unit_zero (S := S1x256) hz2,
    View.ld_unit_zero (S := S1x16x256) hz3, View.ld_unit_zero (S := S256x64) hz2, View.ld_unit_zero (S := S1024x16) hz2, View.ld_unit_zero (S := S1024x64) hz2]

/-- The first point starts from the weighted biases. -/
theorem out1_A (c : Dev nD) (i : grid1.Coords) (arg1 : Memref sig .tc .vmem S1024x2048 .bf16) (harg1 : arg1.IsWhole) (arg2 : Memref sig .tc .vmem S2048x256 .bf16) (harg2 : arg2.IsWhole) (arg3 : Memref sig .tc .vmem S1x256 .f32) (harg3 : arg3.IsWhole) (arg4 : Memref sig .tc .vmem S1x16x256 .f32) (harg4 : arg4.IsWhole) (arg5 : Memref sig .tc .vmem S256x64 .bf16) (harg5 : arg5.IsWhole) (arg6 : Memref sig .tc .vmem S16x64 .f32) (harg6 : arg6.IsWhole) (arg7 : Memref sig .tc .vmem S1024x16 .f32) (harg7 : arg7.IsWhole) (arg8 : Memref sig .tc .vmem S1024x64 .f32) (harg8 : arg8.IsWhole) (hc0 : cond1_0 i)
    (x0 : Vec Ideal S1024x2048 .bf16) (x1 : Vec Ideal S2048x256 .bf16) (x2 : Vec Ideal S1x256 .f32) (x3 : Vec Ideal S1x16x256 .f32) (x4 : Vec Ideal S256x64 .bf16) (x5 : Vec Ideal S16x64 .f32) (x6 : Vec Ideal S1024x16 .f32) :
    out1_A_7 c i arg1 harg1 arg2 harg2 arg3 harg3 arg4 harg4 arg5 harg5 arg6 harg6 arg7 harg7 arg8 harg8 hc0 x0 x1 x2 x3 x4 x5 x6
      = k1_pay2 x0 x1 x2 x6 x3 x4 (k1_pay1 x6 x5) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4 x5 x6)]
  unfold kernelRun1_A
  dsimp only
  sl_unfold_words
  rw [View.canon_cons_unit_zero (S := S1024x64) hz2, View.readCov_unit_zero (S := S1024x64) _ hz2]
  simp only [View.readAt_eq_ld, harg1.read_unread, harg2.read_unread, harg3.read_unread, harg4.read_unread, harg5.read_unread, harg6.read_unread, harg7.read_unread,
    View.ld_unit_zero (S := S1024x2048) hz2, View.ld_unit_zero (S := S2048x256) hz2, View.ld_unit_zero (S := S1x256) hz2,
    View.ld_unit_zero (S := S1x16x256) hz3, View.ld_unit_zero (S := S256x64) hz2, View.ld_unit_zero (S := S1024x16) hz2, View.ld_unit_zero (S := S16x64) hz2]

/-- What the output's buffer holds after point `n`. -/
def acc (c : Dev nD) : (n : ℕ) → n < cfg1.N → Vec Ideal S1024x64 .f32
  | 0, h => k1_pay2 (iblk1 V c 0 ⟨0, h⟩) (iblk1 V c 1 ⟨0, h⟩) (iblk1 V c 2 ⟨0, h⟩) (iblk1 V c 6 ⟨0, h⟩) (iblk1 V c 3 ⟨0, h⟩) (iblk1 V c 4 ⟨0, h⟩)
      (k1_pay1 (iblk1 V c 6 ⟨0, h⟩) (iblk1 V c 5 ⟨0, h⟩))
  | n + 1, h => k1_pay2 (iblk1 V c 0 ⟨n + 1, h⟩) (iblk1 V c 1 ⟨n + 1, h⟩) (iblk1 V c 2 ⟨n + 1, h⟩) (iblk1 V c 6 ⟨n + 1, h⟩) (iblk1 V c 3 ⟨n + 1, h⟩)
      (iblk1 V c 4 ⟨n + 1, h⟩) (acc c n (Nat.lt_of_succ_lt h))

/-- It is what the run leaves there. -/
theorem outsAt1_eq (c : Dev nD) : ∀ (n : ℕ) (h : n < cfg1.N), outsAt1 V c n h = acc V c n h
  | 0, h => (outsAt1_A V c ⟨0, h⟩ rfl).trans (out1_A ..)
  | n + 1, h => by
    have hN : cfg1.N = 4 := N_1
    have hB : ¬(⟨n + 1, h⟩ : Fin cfg1.N).val % 4 = 0 := by dsimp only; omega
    rw [outsAt1_B V c ⟨n + 1, h⟩ hB, out1_B]
    show k1_pay2 _ _ _ _ _ _ (outsAt1 V c n _) = k1_pay2 _ _ _ _ _ _ (acc V c n _)
    rw [outsAt1_eq c n]

/-- The result array: what the buffer holds after the last point. -/
abbrev total (c : Dev nD) : Buf (Elt Ideal) ((c : Thread nD τ).loc main_v61) := acc V c 3 (by rw [show cfg1.N = 4 from N_1]; decide)

/-- The one write-back writes it. -/
theorem flushed1_eq (c : Dev nD) (t : Fin cfg1.N) (hf : (cfg1.win 7).flush t = true) :
    (dat1 V c).flushed 7 t = ((cfg1.win 7).blk t).view.read (Elt Ideal) (total V c) := by
  have hN : cfg1.N = 4 := N_1
  have h3 : t.val = 3 := by have := (flush1_7 t).mp hf; have := t.isLt; omega
  obtain rfl : t = t1_3 := Fin.ext h3
  show (cfg1.win 7).cut (grid1.coords t1_3) ((dat1 V c).after 7 t1_3) = _
  rw [after1_7, outsAt1_eq]
  have hz' : (fun a => win1_7.index t1_3 a * main_v61.ty.shape.size a) = fun _ => 0 := funext fun a => by fin_cases a <;> decide
  exact (Memref.read_access_unit_zero (Elt Ideal) main_v61 hz' (fun a => by rw [congrFun hz' a]; simp) (total V c)).symm

/-- So the result array ends holding it. -/
theorem final1 (c : Dev nD) : (dat1 V c).arrAt 7 cfg1.N = total V c :=
  (dat1 V c).arrAt_eq_of_cover 7 (total V c) (flushed1_eq V c) fun i =>
    ⟨t1_3, (flush1_7 t1_3).mpr rfl, by
      show i ∈ ((View.whole main_v61).slice (win1_7.rect t1_3)).set
      rw [View.set_slice_whole, Rect.mem_set_unit]
      intro a
      have h0 : (i 0 : Nat) < 1024 := (i 0).isLt
      have h1 : (i 1 : Nat) < 64 := (i 1).isLt
      match a with
      | ⟨0, _⟩ => show win1_7.index t1_3 0 * win1_7.size 0 ≤ (i 0 : Nat) ∧ (i 0 : Nat) < win1_7.index t1_3 0 * win1_7.size 0 + win1_7.xsize (grid1.coords t1_3) 0
                  rw [show win1_7.index t1_3 0 * win1_7.size 0 = 0 from by decide +kernel, show win1_7.xsize (grid1.coords t1_3) 0 = 1024 from by decide +kernel]; omega
      | ⟨1, _⟩ => show win1_7.index t1_3 1 * win1_7.size 1 ≤ (i 1 : Nat) ∧ (i 1 : Nat) < win1_7.index t1_3 1 * win1_7.size 1 + win1_7.xsize (grid1.coords t1_3) 1
                  rw [show win1_7.index t1_3 1 * win1_7.size 1 = 0 from by decide +kernel, show win1_7.xsize (grid1.coords t1_3) 1 = 64 from by decide +kernel]; omega⟩

/-- The rows' block is the whole array. -/
theorem blk1_0 (c : Dev nD) (t : Fin cfg1.N) (b : Fin 1024) (l : Fin 2048) : iblk1 V c 0 t (ix2 b l) = V c main_v54_1 (ix2 b l) := by
  have hi : win1_0.index t 0 = 0 ∧ win1_0.index t 1 = 0 := by
    rcases fin_N1 t with rfl | rfl | rfl | rfl <;> decide
  unfold iblk1
  rw [View.read_apply]
  show V c main_v54_1 _ = V c main_v54_1 _
  congr 1
  funext a
  apply Fin.ext
  match a with
  | ⟨0, _⟩ => show win1_0.index t 0 * 1024 + 1 * b.val = b.val; rw [hi.1]; omega
  | ⟨1, _⟩ => show win1_0.index t 1 * 2048 + 1 * l.val = l.val; rw [hi.2]; omega

/-- The first layer's block at point `t`: columns `256 t` and on. -/
theorem blk1_1 (c : Dev nD) (t : Fin cfg1.N) (l : Fin 2048) (j : Fin 256) (q : Fin 1024) (hq : q.val = 256 * t.val + j.val) :
    iblk1 V c 1 t (ix2 l j) = V c main_v57 (ix2 l q) := by
  have hi : win1_1.index t 0 = 0 ∧ win1_1.index t 1 = t.val := by
    rcases fin_N1 t with rfl | rfl | rfl | rfl <;> decide
  unfold iblk1
  rw [View.read_apply]
  show V c main_v57 _ = V c main_v57 _
  congr 1
  funext a
  apply Fin.ext
  match a with
  | ⟨0, _⟩ => show win1_1.index t 0 * 2048 + 1 * l.val = l.val; rw [hi.1]; omega
  | ⟨1, _⟩ => show win1_1.index t 1 * 256 + 1 * j.val = q.val; rw [hi.2]; omega

/-- The first biases' block at point `t`. -/
theorem blk1_2 (c : Dev nD) (t : Fin cfg1.N) (j : Fin 256) (q : Fin 1024) (hq : q.val = 256 * t.val + j.val) :
    iblk1 V c 2 t (ix2 0 j) = V c main_v58 (ix2 0 q) := by
  have hi : win1_2.index t 0 = 0 ∧ win1_2.index t 1 = t.val := by
    rcases fin_N1 t with rfl | rfl | rfl | rfl <;> decide
  unfold iblk1
  rw [View.read_apply]
  show V c main_v58 _ = V c main_v58 _
  congr 1
  funext a
  apply Fin.ext
  match a with
  | ⟨0, _⟩ => show win1_2.index t 0 * 1 + 1 * 0 = 0; rw [hi.1]
  | ⟨1, _⟩ => show win1_2.index t 1 * 256 + 1 * j.val = q.val; rw [hi.2]; omega

/-- The choice of experts' block at point `t`. -/
theorem blk1_3 (c : Dev nD) (t : Fin cfg1.N) (e : Fin 16) (j : Fin 256) (g : Fin 4) (hg : g.val = t.val) :
    iblk1 V c 3 t (ix3 0 e j) = V c main_cst (ix3 g e j) := by
  have hi : win1_3.index t 0 = t.val ∧ win1_3.index t 1 = 0 ∧ win1_3.index t 2 = 0 := by
    rcases fin_N1 t with rfl | rfl | rfl | rfl <;> decide
  unfold iblk1
  rw [View.read_apply]
  show V c main_cst _ = V c main_cst _
  congr 1
  funext a
  apply Fin.ext
  match a with
  | ⟨0, _⟩ => show win1_3.index t 0 * 1 + 1 * 0 = g.val; rw [hi.1]; omega
  | ⟨1, _⟩ => show win1_3.index t 1 * 16 + 1 * e.val = e.val; rw [hi.2.1]; omega
  | ⟨2, _⟩ => show win1_3.index t 2 * 256 + 1 * j.val = j.val; rw [hi.2.2]; omega

/-- The second layer's block at point `t`: rows `256 t` and on. -/
theorem blk1_4 (c : Dev nD) (t : Fin cfg1.N) (j : Fin 256) (o : Fin 64) (q : Fin 1024) (hq : q.val = 256 * t.val + j.val) :
    iblk1 V c 4 t (ix2 j o) = V c main_v60 (ix2 q o) := by
  have hi : win1_4.index t 0 = t.val ∧ win1_4.index t 1 = 0 := by
    rcases fin_N1 t with rfl | rfl | rfl | rfl <;> decide
  unfold iblk1
  rw [View.read_apply]
  show V c main_v60 _ = V c main_v60 _
  congr 1
  funext a
  apply Fin.ext
  match a with
  | ⟨0, _⟩ => show win1_4.index t 0 * 256 + 1 * j.val = q.val; rw [hi.1]; omega
  | ⟨1, _⟩ => show win1_4.index t 1 * 64 + 1 * o.val = o.val; rw [hi.2]; omega

/-- The second biases' block is the whole array. -/
theorem blk1_5 (c : Dev nD) (t : Fin cfg1.N) (e : Fin 16) (o : Fin 64) : iblk1 V c 5 t (ix2 e o) = V c main_arg8 (ix2 e o) := by
  have hi : win1_5.index t 0 = 0 ∧ win1_5.index t 1 = 0 := by
    rcases fin_N1 t with rfl | rfl | rfl | rfl <;> decide
  unfold iblk1
  rw [View.read_apply]
  show V c main_arg8 _ = V c main_arg8 _
  congr 1
  funext a
  apply Fin.ext
  match a with
  | ⟨0, _⟩ => show win1_5.index t 0 * 16 + 1 * e.val = e.val; rw [hi.1]; omega
  | ⟨1, _⟩ => show win1_5.index t 1 * 64 + 1 * o.val = o.val; rw [hi.2]; omega

/-- The weights' block is the whole array. -/
theorem blk1_6 (c : Dev nD) (t : Fin cfg1.N) (b : Fin 1024) (e : Fin 16) : iblk1 V c 6 t (ix2 b e) = V c main_v54_0 (ix2 b e) := by
  have hi : win1_6.index t 0 = 0 ∧ win1_6.index t 1 = 0 := by
    rcases fin_N1 t with rfl | rfl | rfl | rfl <;> decide
  unfold iblk1
  rw [View.read_apply]
  show V c main_v54_0 _ = V c main_v54_0 _
  congr 1
  funext a
  apply Fin.ext
  match a with
  | ⟨0, _⟩ => show win1_6.index t 0 * 1024 + 1 * b.val = b.val; rw [hi.1]; omega
  | ⟨1, _⟩ => show win1_6.index t 1 * 16 + 1 * e.val = e.val; rw [hi.2]; omega

/-- Column `j` of group `g`, among all 1024. -/
def colOf (g : Fin 4) (j : Fin 256) : Fin 1024 := ⟨256 * g.val + j.val, by have := g.isLt; have := j.isLt; omega⟩

/-- What group `g` adds to one entry of the result: its 256 columns' rectified first layer, weighted, times the second layer. -/
def share (X : Fin 2048 → EReal) (A : Fin 2048 → Fin 1024 → EReal) (a : Fin 1024 → EReal) (w : Fin 16 → EReal)
    (S : Fin 4 → Fin 16 → Fin 256 → EReal) (B : Fin 1024 → EReal) (g : Fin 4) : EReal :=
  ∑ j, max (∑ l, X l * A l (colOf g j) + a (colOf g j)) 0 * (∑ e, w e * S g e j) * B (colOf g j)

section
variable (c : Dev nD) (b : Fin 1024) (o : Fin 64) (X : Fin 2048 → EReal) (A : Fin 2048 → Fin 1024 → EReal) (a : Fin 1024 → EReal)
  (w : Fin 16 → EReal) (S : Fin 4 → Fin 16 → Fin 256 → EReal) (B : Fin 1024 → EReal) (d : Fin 16 → EReal)
  (hX : ∀ l, V c main_v54_1 (ix2 b l) = X l) (hA : ∀ l q, V c main_v57 (ix2 l q) = A l q) (ha : ∀ q, V c main_v58 (ix2 0 q) = a q)
  (hw : ∀ e, V c main_v54_0 (ix2 b e) = w e) (hS : ∀ g e j, V c main_cst (ix3 g e j) = S g e j) (hB : ∀ q, V c main_v60 (ix2 q o) = B q)
  (hd : ∀ e, V c main_arg8 (ix2 e o) = d e)
include hX hA ha hw hS hB

/-- A point's addition, read. -/
theorem pay_blocks (t : Fin cfg1.N) (g : Fin 4) (hg : g.val = t.val) (p : Vec Ideal S1024x64 .f32) :
    k1_pay2 (iblk1 V c 0 t) (iblk1 V c 1 t) (iblk1 V c 2 t) (iblk1 V c 6 t) (iblk1 V c 3 t) (iblk1 V c 4 t) p (ix2 b o)
      = p (ix2 b o) + share X A a w S B g := by
  refine (k1pay2_apply _ _ _ _ _ _ _ _ _).trans ?_
  unfold share
  refine congrArg (p (ix2 b o) + ·) (Finset.sum_congr rfl fun j _ => ?_)
  have hq : (colOf g j).val = 256 * t.val + j.val := by rw [← hg]; rfl
  refine congrArg₂ (· * ·) (congrArg₂ (· * ·) (congrArg (fun z : EReal => max z 0) (congrArg₂ (· + ·)
    (Finset.sum_congr rfl fun l _ => congrArg₂ (· * ·) ?_ ?_) ?_)) (Finset.sum_congr rfl fun e _ => congrArg₂ (· * ·) ?_ ?_)) ?_
  · exact (blk1_0 V c t b l).trans (hX l)
  · exact (blk1_1 V c t l j _ hq).trans (hA l _)
  · exact (blk1_2 V c t j _ hq).trans (ha _)
  · exact (blk1_6 V c t b e).trans (hw e)
  · exact (blk1_3 V c t e j g hg).trans (hS g e j)
  · exact (blk1_4 V c t j o _ hq).trans (hB _)

include hd in
/-- The result: the weighted biases and the four groups' shares. -/
theorem total_apply : total V c (ix2 b o) = (∑ e, w e * d e) + ∑ g, share X A a w S B g := by
  have hN : cfg1.N = 4 := N_1
  have key := pay_blocks V c b o X A a w S B hX hA ha hw hS hB
  unfold total
  simp only [acc]
  refine (key ⟨3, _⟩ 3 rfl _).trans ?_
  rw [Fin.sum_univ_four, ← add_assoc, ← add_assoc, ← add_assoc]
  refine congrArg (· + _) ((key ⟨2, _⟩ 2 rfl _).trans (congrArg (· + _) ((key ⟨1, _⟩ 1 rfl _).trans (congrArg (· + _) ((key ⟨0, _⟩ 0 rfl _).trans (congrArg (· + _) ?_))))))
  refine (k1pay1_apply _ _ _ _).trans (Finset.sum_congr rfl fun e _ => congrArg₂ (· * ·) ?_ ?_)
  · exact (blk1_6 V c _ b e).trans (hw e)
  · exact (blk1_5 V c _ e o).trans (hd e)

end

end Cert.Proof.Ker

end
-- ==== Proof.Lit.lean ====
/- The kernel's table of chosen experts, entry by entry. -/
module

public import proofs.«01_k».proof.KernelIdeal

@[expose] public section

set_option maxRecDepth 16384

namespace Cert.Proof.Ker

open Cert.KernelIdeal Idealize.ShloMosaic

/-- The table of chosen experts: one where column `j` of group `g` belongs to expert `e`, else zero. -/
theorem lit0_eq : ∀ i : Fin 16384, lit0 i = if i.val / 256 % 16 = 4 * (i.val / 4096) + i.val % 256 / 64 then 0x3F800000#32 else 0x00000000#32 := by
  decide +kernel

end Cert.Proof.Ker

end
-- ==== Proof.Choice.lean ====
/- The kernel's table of chosen experts, read at an index. -/
module

public import proofs.«01_k».proof.Proof.Lit
public import proofs.«01_k».proof.Proof.Experts
public import Idealize.ShloMosaic.Lib.Pointwise

@[expose] public section

set_option maxRecDepth 16384

noncomputable section

namespace Cert.Proof.Ker

open Cert.KernelIdeal Idealize.ShloMosaic

/-- The place of an entry of the table. -/
theorem rowMajor_choice (g : Fin 4) (e : Fin 16) (j : Fin 256) : (S4x16x256.rowMajor (ix3 g e j)).val = 4096 * g.val + 256 * e.val + j.val := by
  refine (Shape.rowMajor_val_three (ix3 g e j)).trans ?_
  show (g.val * 16 + e.val) * 256 + j.val = _
  omega

/-- The table holds one where the column is the expert's, else zero. -/
theorem choice_apply (g : Fin 4) (e : Fin 16) (j : Fin 256) :
    FloatOps.ofBits (F := Ideal) .f32 (lit0 (S4x16x256.rowMajor (ix3 g e j))) = if e = Experts.expertOf g j then (1 : EReal) else 0 := by
  have hg := g.isLt
  have he := e.isLt
  have hj := j.isLt
  suffices hl : ∀ i : Fin 16384, i.val = 4096 * g.val + 256 * e.val + j.val →
      FloatOps.ofBits (F := Ideal) .f32 (lit0 i) = if e = Experts.expertOf g j then (1 : EReal) else 0 from hl _ (rowMajor_choice g e j)
  intro i hi
  have d1 : i.val / 256 % 16 = e.val := by omega
  have d2 : i.val / 4096 = g.val := by omega
  have d3 : i.val % 256 = j.val := by omega
  rw [lit0_eq, d1, d2, d3]
  have h1 : Ideal.ofBits .f32 0x3F800000#32 = 1 := by simp [Ideal.ofBits, Ideal.ieee, -EReal.coe_mul]; norm_num
  have h0 : Ideal.ofBits .f32 0x00000000#32 = 0 := by simp [Ideal.ofBits, Ideal.ieee, -EReal.coe_mul]
  by_cases h : e = Experts.expertOf g j
  · have hv : e.val = 4 * g.val + j.val / 64 := congrArg Fin.val h
    rw [if_pos hv, if_pos h]
    exact h1
  · have hv : e.val ≠ 4 * g.val + j.val / 64 := fun hv => h (Fin.ext hv)
    rw [if_neg hv, if_neg h]
    exact h0

end Cert.Proof.Ker

end
-- ==== Proof.Value.lean ====
/- The two kernels, one after the other: the result array ends holding the reference's result. -/
module

public import proofs.«01_k».proof.Proof.Mean
public import proofs.«01_k».proof.Proof.Region0
public import proofs.«01_k».proof.Proof.Region1
public import proofs.«01_k».proof.Proof.Choice

@[expose] public section

set_option maxRecDepth 16384

noncomputable section

namespace Cert.Proof.Ker

open Cert.KernelIdeal Cert.KernelIdeal.Gen Idealize.ShloMosaic Idealize.ShloMosaic.TcCoe Idealize.SL.Sem
open Cert.Proof.Finite Cert.Proof.Weights

section
variable (x : FVec Ideal S1024x2048 .f32) (g1 : FVec Ideal S129x256 .f32) (b1 : FVec Ideal S256 .f32) (g2 : FVec Ideal S256x16 .f32) (b2 : FVec Ideal S16 .f32)
  (w1 : FVec Ideal S16x2048x64 .f32) (c1 : FVec Ideal S16x64 .f32) (w2 : FVec Ideal S16x64x64 .f32) (c2 : FVec Ideal S16x64 .f32) (b : Fin 1024) (o : Fin 64)

/-- A column's expert and unit, found from its place. -/
theorem split_col (g : Fin 4) (j : Fin 256) :
    (⟨(colOf g j).val / 64, by have := (colOf g j).isLt; omega⟩ : Fin 16) = Experts.expertOf g j
      ∧ (⟨(colOf g j).val % 64, by omega⟩ : Fin 64) = Experts.unitOf j := by
  have hj := j.isLt
  constructor
  · refine Fin.ext ?_
    show (256 * g.val + j.val) / 64 = 4 * g.val + j.val / 64
    omega
  · refine Fin.ext ?_
    show (256 * g.val + j.val) % 64 = j.val % 64
    omega

/-- A group's share, with the experts and units named. -/
theorem share_eq (w : Fin 16 → EReal) (g : Fin 4) :
    share (fun l => x (ix2 b l)) (fun l q => w1 (ix3 ⟨q.val / 64, by omega⟩ l ⟨q.val % 64, by omega⟩))
      (fun q => c1 (ix2 ⟨q.val / 64, by omega⟩ ⟨q.val % 64, by omega⟩)) w (fun g e j => if e = Experts.expertOf g j then 1 else 0)
      (fun q => w2 (ix3 ⟨q.val / 64, by omega⟩ ⟨q.val % 64, by omega⟩ o)) g
      = ∑ j : Fin 256, Ref.hidden x w1 c1 (ix3 (Experts.expertOf g j) b (Experts.unitOf j)) * w (Experts.expertOf g j)
          * w2 (ix3 (Experts.expertOf g j) (Experts.unitOf j) o) := by
  unfold share
  refine Finset.sum_congr rfl fun j _ => ?_
  have hs := split_col g j
  dsimp only
  rw [hs.1, hs.2, Ref.hidden_apply]
  have h1 : ∑ e, w e * (if e = Experts.expertOf g j then (1 : EReal) else 0) = w (Experts.expertOf g j) := by
    rw [Finset.sum_eq_single (Experts.expertOf g j)]
    · rw [if_pos rfl, mul_one]
    · intro e _ he
      rw [if_neg he, mul_zero]
    · exact fun h => absurd (Finset.mem_univ _) h
  have h2 : ∑ l, x (ix2 b l) * w1 (ix3 (Experts.expertOf g j) l (Experts.unitOf j)) = ∑ l, w1 (ix3 (Experts.expertOf g j) l (Experts.unitOf j)) * x (ix2 b l) :=
    Finset.sum_congr rfl fun l _ => mul_comm _ _
  rw [h1, h2]

/-- What the two kernels compute at an entry is what the reference does, when the row's logits are real. -/
theorem entry_eq (hL : ∀ e, IsReal (Ref.gate (Ref.pooled x) g1 b1 g2 b2 (ix2 b e))) :
    (∑ e, rowWeights (fun e => Ref.gate (Ref.pooled x) g1 b1 g2 b2 (ix2 b e)) e * c2 (ix2 e o))
      + ∑ g, ∑ j : Fin 256, Ref.hidden x w1 c1 (ix3 (Experts.expertOf g j) b (Experts.unitOf j))
          * rowWeights (fun e => Ref.gate (Ref.pooled x) g1 b1 g2 b2 (ix2 b e)) (Experts.expertOf g j) * w2 (ix3 (Experts.expertOf g j) (Experts.unitOf j) o)
      = Ref.result x g1 b1 g2 b2 w1 c1 w2 c2 (ix2 b o) := by
  unfold Ref.result
  generalize Ref.gate (Ref.pooled x) g1 b1 g2 b2 = G at hL ⊢
  have hf := sorted_first fun e => G (ix2 b e)
  have hs := sorted_second fun e => G (ix2 b e)
  have t0 := topv_apply G b 0
  have t1 := topv_apply G b 1
  have hle := First.le hf (TopTwo.sorted (fun e => G (ix2 b e)) 1)
  rw [Ref.combine_apply (Ref.soft (Ref.topv G)) (Ref.topi G) _ b o (fun k => TopTwo.sorted (fun e => G (ix2 b e)) ⟨k.val, by omega⟩) (topi_apply G b), Fin.sum_univ_two]
  obtain ⟨u, hu⟩ := hL (TopTwo.sorted (fun e => G (ix2 b e)) 0)
  obtain ⟨v, hv⟩ := hL (TopTwo.sorted (fun e => G (ix2 b e)) 1)
  have hvu : v ≤ u := by
    rw [hu, hv] at hle
    exact EReal.coe_le_coe_iff.mp hle
  obtain ⟨s0, s1⟩ := soft_eq (Ref.topv G) b u v (t0.trans hu) (t1.trans hv) hvu
  obtain ⟨r₁, p₁, q₁⟩ := w₁_real u v
  obtain ⟨r₂, p₂, q₂⟩ := w₂_real u v
  have hw : ∀ e, rowWeights (fun e => G (ix2 b e)) e = Experts.weight (TopTwo.sorted (fun e => G (ix2 b e)) 0) (TopTwo.sorted (fun e => G (ix2 b e)) 1) r₁ r₂ e := by
    intro e
    rw [rowWeights_eq _ _ _ hf hs (by rw [hv]; exact EReal.coe_ne_bot v) e, hu, hv, q₁, q₂]
  simp only [hw]
  rw [s0, s1, q₁, q₂, Ref.outs_apply, Ref.outs_apply]
  exact Experts.combine _ _ _ _ hs.1.symm (EReal.coe_nonneg.mpr p₁) (EReal.coe_ne_top r₁) (EReal.coe_nonneg.mpr p₂) (EReal.coe_ne_top r₂)
    (fun e h => Ref.hidden x w1 c1 (ix3 e b h)) (fun e h => w2 (ix3 e h o)) (fun e => c2 (ix2 e o))

end

variable (m : (ℓ : Loc nD τ sig) → Buf (Elt Ideal) ℓ) (ρ : Dev nD → PrngReg) (c : Dev nD)

/-- The rows the experts' kernel reads are the argument's. -/
theorem W3_v54_1 (b : Fin 1024) (l : Fin 2048) : W3 m ρ c main_v54_1 (ix2 b l) = m ((c : Thread nD τ).loc main_arg0) (ix2 b l) := by
  have h : W3 m ρ c main_v54_1 = W2 m ρ c main_v54_1 := W3_of m ρ c main_v54_1 (by decide)
  have h2 : W2 m ρ c main_v54_1 = (dat0 (V1 m ρ) c).arrAt 12 cfg0.N := (hF0 m ρ c 12).symm
  rw [h, h2, final12]
  exact congrFun (W1_args m ρ c main_arg0 (by decide)) (ix2 b l)

/-- The weights the experts' kernel reads are the row's. -/
theorem W3_v54_0 (hx : ∀ i, IsReal (m ((c : Thread nD τ).loc main_arg0) i)) (b : Fin 1024) (e : Fin 16) :
    W3 m ρ c main_v54_0 (ix2 b e) = rowWeights (fun e => Ref.gate (Ref.pooled (m ((c : Thread nD τ).loc main_arg0))) (m ((c : Thread nD τ).loc main_arg1))
      (m ((c : Thread nD τ).loc main_arg2)) (m ((c : Thread nD τ).loc main_arg3)) (m ((c : Thread nD τ).loc main_arg4)) (ix2 b e)) e := by
  have h : W3 m ρ c main_v54_0 = W2 m ρ c main_v54_0 := W3_of m ρ c main_v54_0 (by decide)
  have h2 : W2 m ρ c main_v54_0 = (dat0 (V1 m ρ) c).arrAt 11 cfg0.N := (hF0 m ρ c 11).symm
  rw [h, h2, final11]
  refine (wm_apply (V1 m ρ) c b e (fun l => m ((c : Thread nD τ).loc main_arg0) (ix2 b l))
    (fun n f => windowed (Host.cos angV) (ix2 n f)) (fun n f => windowed (Host.sin angV) (ix2 n f))
    (fun n f => front (windowed (Host.cos angV)) (ix2 n f)) (fun n f => front (windowed (Host.sin angV)) (ix2 n f))
    (fun n f => back (windowed (Host.cos angV)) (ix2 n f)) (fun n f => back (windowed (Host.sin angV)) (ix2 n f))
    (fun f k => m ((c : Thread nD τ).loc main_arg1) (ix2 f k)) (fun k => m ((c : Thread nD τ).loc main_arg2) (ix1 k))
    (fun k e => m ((c : Thread nD τ).loc main_arg3) (ix2 k e)) (fun e => m ((c : Thread nD τ).loc main_arg4) (ix1 e))
    (fun l => congrFun (W1_args m ρ c main_arg0 (by decide)) (ix2 b l))
    (fun n f => congrFun (W1_v23 m ρ c) (ix2 n f)) (fun n f => congrFun (W1_v27 m ρ c) (ix2 n f))
    (fun n f => congrFun (W1_v33 m ρ c) (ix2 n f)) (fun n f => congrFun (W1_v39 m ρ c) (ix2 n f))
    (fun n f => congrFun (W1_v45 m ρ c) (ix2 n f)) (fun n f => congrFun (W1_v51 m ρ c) (ix2 n f))
    (fun f k => congrFun (W1_args m ρ c main_arg1 (by decide)) (ix2 f k))
    (fun k => (congrFun (W1_v52 m ρ c) (ix2 0 k)).trans (row256_apply _ k))
    (fun k e => congrFun (W1_args m ρ c main_arg3 (by decide)) (ix2 k e))
    (fun e => (congrFun (W1_v53 m ρ c) (ix2 0 e)).trans (row16_apply _ e))).trans ?_
  refine congrFun (congrArg rowWeights (funext fun e => ?_)) e
  rw [Ref.gate_apply]
  unfold logits
  simp only [Mean.mean_eq _ hx b]

/-- The result array's entry. -/
theorem W4_v61 (hx : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    W4 m ρ c main_v61 = Ref.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  have e4 : W4 m ρ c main_v61 = (dat1 (V3 m ρ) c).arrAt 7 cfg1.N := (hF1 m ρ c 7).symm
  rw [e4, final1]
  funext i
  obtain ⟨b, o, rfl⟩ : ∃ (b : Fin 1024) (o : Fin 64), i = ix2 b o := ⟨i 0, i 1, funext fun a => by fin_cases a <;> rfl⟩
  have a5 : W2 m ρ c main_arg5 = m ((c : Thread nD τ).loc main_arg5) := W2_args m ρ c main_arg5 (by decide)
  have a6 : W2 m ρ c main_arg6 = m ((c : Thread nD τ).loc main_arg6) := W2_args m ρ c main_arg6 (by decide)
  have a7 : W2 m ρ c main_arg7 = m ((c : Thread nD τ).loc main_arg7) := W2_args m ρ c main_arg7 (by decide)
  have a8 : W3 m ρ c main_arg8 = m ((c : Thread nD τ).loc main_arg8) := W3_args m ρ c main_arg8 (by decide)
  have ac : W3 m ρ c main_cst = W1 m ρ c main_cst := (W3_of m ρ c main_cst (by decide)).trans (W2_of_ne m ρ c main_cst (by decide))
  refine (total_apply (V3 m ρ) c b o (fun l => m ((c : Thread nD τ).loc main_arg0) (ix2 b l))
    (fun l q => m ((c : Thread nD τ).loc main_arg5) (ix3 ⟨q.val / 64, by omega⟩ l ⟨q.val % 64, by omega⟩))
    (fun q => m ((c : Thread nD τ).loc main_arg6) (ix2 ⟨q.val / 64, by omega⟩ ⟨q.val % 64, by omega⟩))
    (rowWeights (fun e => Ref.gate (Ref.pooled (m ((c : Thread nD τ).loc main_arg0))) (m ((c : Thread nD τ).loc main_arg1))
      (m ((c : Thread nD τ).loc main_arg2)) (m ((c : Thread nD τ).loc main_arg3)) (m ((c : Thread nD τ).loc main_arg4)) (ix2 b e)))
    (fun g e j => if e = Experts.expertOf g j then 1 else 0)
    (fun q => m ((c : Thread nD τ).loc main_arg7) (ix3 ⟨q.val / 64, by omega⟩ ⟨q.val % 64, by omega⟩ o))
    (fun e => m ((c : Thread nD τ).loc main_arg8) (ix2 e o))
    (W3_v54_1 m ρ c b) (fun l q => ?_) (fun q => ?_) (W3_v54_0 m ρ c hx b) (fun g e j => ?_) (fun q => ?_)
    (fun e => congrFun a8 (ix2 e o))).trans ?_
  · exact (congrFun (W3_v57 m ρ c) _).trans (by rw [a5]; exact wide_apply _ l q)
  · exact (congrFun (W3_v58 m ρ c) _).trans (by rw [a6]; exact wideBias_apply _ q)
  · exact (congrFun (ac.trans (W1_cst m ρ c)) _).trans (choice_apply g e j)
  · exact (congrFun (W3_v60 m ρ c) _).trans (by rw [a7]; exact tall_apply _ q o)
  · refine Eq.trans (congrArg (_ + ·) (Finset.sum_congr rfl fun g _ => share_eq _ _ _ _ b o _ g)) ?_
    exact entry_eq _ _ _ _ _ _ _ _ _ b o fun e => gate_real _ hx _ _ _ _ h1 h2 h3 h4 b e

end Cert.Proof.Ker

end
-- ==== Proof.Algebraic.lean ====
/- The value claim: the idealized kernel and the reference end with one result. -/
module

public import proofs.«01_k».proof.Defs
public import proofs.«01_k».proof.Proof.Gen.Pre_finite
public import proofs.«01_k».proof.Proof.Run
public import proofs.«01_k».proof.Proof.Value

@[expose] public section

set_option maxRecDepth 16384

noncomputable section

open Idealize.ShloMosaic Idealize.ShloMosaic.TcCoe Idealize.SL.Sem

namespace Cert.Proof.Claims

/-- From memories that agree on the arguments, the gate's five real, the idealized kernel's result is the reference's. -/
theorem algebraic : Cert.algebraic_KernelIdeal_ReferenceIdeal_pre_finite := by
  intro m g m' g' hpre hagree
  refine ⟨fun c => Cert.KernelIdeal.Gen.W4 m g c Cert.KernelIdeal.main_v61, Ker.run m g, ?_⟩
  refine (θ_run Cert.ReferenceIdeal.defs _ _).mono (fun r h c => ⟨(h c).1.trans ?_, (h c).2⟩) (Cert.ReferenceIdeal.Value.run (F := Ideal) m' g')
  obtain ⟨f0, f1, f2, f3, f4⟩ := Finite.of_pre _ _ _ _ _ _ _ _ _ (hpre c)
  obtain ⟨e0, e1, e2, e3, e4, e5, e6, e7, e8⟩ := hagree c
  refine (Ref.res_eq m' c).trans ?_
  rw [e0, e1, e2, e3, e4, e5, e6, e7, e8]
  exact (Ker.W4_v61 m g c f0 f1 f2 f3 f4).symm

end Cert.Proof.Claims

end
-- ==== Proof.lean ====
/- The proof of the claim: the witnesses of the programs' stated facts, then each part of the claim from its module. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_finite.Gen.facts, Claims.frame_p, Claims.frame_pi, Claims.frame_pi_finite, Claims.frame_ri,
    Claims.frame_ri_finite, Claims.preserves, Claims.algebraic⟩

end Cert.Proof

end
